-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S110x2x512 Cert.KernelIdeal.S110x1x512
  ∧ IdealRules.bf16_pair.BufferStatement Cert.KernelIdeal.S2x55x2x512 Cert.KernelIdeal.S2x55x1x512
  ∧ IdealRules.bf16_pair.Statement Cert.KernelIdeal.S1024x110 Cert.KernelIdeal.S512x110
  ∧ IdealRules.bf16_pair.PackStatement Cert.KernelIdeal.S110x512
  ∧ IdealRules.bf16_pair.Statement Cert.KernelIdeal.S110x2x512 Cert.KernelIdeal.S110x1x512
  ∧ IdealRules.bf16_pair.Statement Cert.KernelIdeal.S1024x55 Cert.KernelIdeal.S512x55
  ∧ IdealRules.bf16_pair.PackStatement Cert.KernelIdeal.S55x512
  ∧ IdealRules.bf16_pair.Statement Cert.KernelIdeal.S1x55x2x512 Cert.KernelIdeal.S1x55x1x512
  ∧ IdealRules.bf16_pair.Statement Cert.KernelIdeal.S1x1x2x512 Cert.KernelIdeal.S1x1x1x512
  ∧ IdealRules.bf16_pair.Statement Cert.KernelIdeal.S16x512 Cert.KernelIdeal.S8x512
  ∧ IdealRules.bf16_pair.Statement Cert.KernelIdeal.S1x2x512 Cert.KernelIdeal.S1x1x512
  ∧ IdealRules.bf16_pair.Statement Cert.KernelIdeal.S32x128 Cert.KernelIdeal.S16x128
  ∧ IdealRules.bf16_pair.PackStatement Cert.KernelIdeal.S16x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x7040 : Shape := ⟨3, ![32, 1, 7040]⟩
abbrev S7040x14912 : Shape := ⟨2, ![7040, 14912]⟩
abbrev S29824x110 : Shape := ⟨2, ![29824, 110]⟩
abbrev S29824x55 : Shape := ⟨2, ![29824, 55]⟩
abbrev S32x7040 : Shape := ⟨2, ![32, 7040]⟩
abbrev S_ : Shape := ⟨0, ![]⟩
abbrev S32x7040x1 : Shape := ⟨3, ![32, 7040, 1]⟩
abbrev S32x7040x2 : Shape := ⟨3, ![32, 7040, 2]⟩
abbrev S32x14080 : Shape := ⟨2, ![32, 14080]⟩
abbrev S64x14080 : Shape := ⟨2, ![64, 14080]⟩
abbrev S32x29824 : Shape := ⟨2, ![32, 29824]⟩
abbrev S7040x512 : Shape := ⟨2, ![7040, 512]⟩
abbrev S1024x110 : Shape := ⟨2, ![1024, 110]⟩
abbrev S1024x55 : Shape := ⟨2, ![1024, 55]⟩
abbrev S32x1024 : Shape := ⟨2, ![32, 1024]⟩
abbrev S110x512 : Shape := ⟨2, ![110, 512]⟩
abbrev S2x55x512 : Shape := ⟨3, ![2, 55, 512]⟩
abbrev S512x110 : Shape := ⟨2, ![512, 110]⟩
abbrev S512x55 : Shape := ⟨2, ![512, 55]⟩
abbrev S55x512 : Shape := ⟨2, ![55, 512]⟩
abbrev S1x55x512 : Shape := ⟨3, ![1, 55, 512]⟩
abbrev S64x512 : Shape := ⟨2, ![64, 512]⟩
abbrev S128x512 : Shape := ⟨2, ![128, 512]⟩
abbrev S8x16x512 : Shape := ⟨3, ![8, 16, 512]⟩
abbrev S1x1x512 : Shape := ⟨3, ![1, 1, 512]⟩
abbrev S1x512 : Shape := ⟨2, ![1, 512]⟩
abbrev S8x512 : Shape := ⟨2, ![8, 512]⟩
abbrev S16x512 : Shape := ⟨2, ![16, 512]⟩
abbrev S1x16x512 : Shape := ⟨3, ![1, 16, 512]⟩
abbrev S256x512 : Shape := ⟨2, ![256, 512]⟩
abbrev S64x256 : Shape := ⟨2, ![64, 256]⟩
abbrev S64x128 : Shape := ⟨2, ![64, 128]⟩
abbrev S32x128 : Shape := ⟨2, ![32, 128]⟩
abbrev S16x128 : Shape := ⟨2, ![16, 128]⟩
abbrev S16x128x1 : Shape := ⟨3, ![16, 128, 1]⟩
abbrev S32x256 : Shape := ⟨2, ![32, 256]⟩

abbrev nBuf : Space → Nat
  | .hbm => 17
  | .vmem => 11
  | .smem => 0
  | _ => 0

abbrev bufTy : (tb : Table) → Fin (tcTables nBuf tb) → BufTy
  | .hbm, ⟨0, _⟩ => ⟨S32x1x7040, .bf16⟩
  | .hbm, ⟨1, _⟩ => ⟨S7040x14912, .i8⟩
  | .hbm, ⟨2, _⟩ => ⟨S29824x110, .bf16⟩
  | .hbm, ⟨3, _⟩ => ⟨S29824x55, .i8⟩
  | .hbm, ⟨4, _⟩ => ⟨S32x7040, .bf16⟩
  | .hbm, ⟨5, _⟩ => ⟨S_, .bf16⟩
  | .hbm, ⟨6, _⟩ => ⟨S32x7040, .bf16⟩
  | .hbm, ⟨7, _⟩ => ⟨S32x7040x1, .bf16⟩
  | .hbm, ⟨8, _⟩ => ⟨S32x7040x1, .bf16⟩
  | .hbm, ⟨9, _⟩ => ⟨S32x7040x2, .bf16⟩
  | .hbm, ⟨10, _⟩ => ⟨S32x14080, .bf16⟩
  | .hbm, ⟨11, _⟩ => ⟨S32x7040x1, .bf16⟩
  | .hbm, ⟨12, _⟩ => ⟨S32x7040x1, .bf16⟩
  | .hbm, ⟨13, _⟩ => ⟨S32x7040x2, .bf16⟩
  | .hbm, ⟨14, _⟩ => ⟨S32x14080, .bf16⟩
  | .hbm, ⟨15, _⟩ => ⟨S64x14080, .bf16⟩
  | .hbm, ⟨16, _⟩ => ⟨S32x29824, .bf16⟩
  | .local _ .vmem, ⟨0, _⟩ => ⟨S64x14080, .bf16⟩
  | .local _ .vmem, ⟨1, _⟩ => ⟨S7040x512, .i8⟩
  | .local _ .vmem, ⟨2, _⟩ => ⟨S7040x512, .i8⟩
  | .local _ .vmem, ⟨3, _⟩ => ⟨S1024x110, .bf16⟩
  | .local _ .vmem, ⟨4, _⟩ => ⟨S1024x110, .bf16⟩
  | .local _ .vmem, ⟨5, _⟩ => ⟨S1024x55, .i8⟩
  | .local _ .vmem, ⟨6, _⟩ => ⟨S1024x55, .i8⟩
  | .local _ .vmem, ⟨7, _⟩ => ⟨S32x1024, .bf16⟩
  | .local _ .vmem, ⟨8, _⟩ => ⟨S32x1024, .bf16⟩
  | .local _ .vmem, ⟨9, _⟩ => ⟨S110x512, .i32⟩
  | .local _ .vmem, ⟨10, _⟩ => ⟨S2x55x512, .i32⟩
  | _, _ => ⟨S32x1x7040, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x14080 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7040x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x110 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x55 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S110x2x512 : Shape := ⟨3, ![110, 2, 512]⟩
abbrev S110x1x512 : Shape := ⟨3, ![110, 1, 512]⟩
abbrev S2x55x2x512 : Shape := ⟨4, ![2, 55, 2, 512]⟩
abbrev S2x55x1x512 : Shape := ⟨4, ![2, 55, 1, 512]⟩
abbrev S1x55x2x512 : Shape := ⟨4, ![1, 55, 2, 512]⟩
abbrev S1x55x1x512 : Shape := ⟨4, ![1, 55, 1, 512]⟩
abbrev S1x1x2x512 : Shape := ⟨4, ![1, 1, 2, 512]⟩
abbrev S1x1x1x512 : Shape := ⟨4, ![1, 1, 1, 512]⟩
abbrev S1x2x512 : Shape := ⟨3, ![1, 2, 512]⟩
  | .local _ .vmem, ⟨9, _⟩ => ⟨S110x2x512, .bf16⟩
  | .local _ .vmem, ⟨10, _⟩ => ⟨S2x55x2x512, .bf16⟩
variable {F : FTy → Type} [FloatOps F]
-- ==== ReferenceIdeal.lean ====
abbrev S32x1x7040 : Shape := ⟨3, ![32, 1, 7040]⟩
abbrev S7040x14912 : Shape := ⟨2, ![7040, 14912]⟩
abbrev S29824x110 : Shape := ⟨2, ![29824, 110]⟩
abbrev S29824x55 : Shape := ⟨2, ![29824, 55]⟩
abbrev S_ : Shape := ⟨0, ![]⟩
abbrev S29824x55x1 : Shape := ⟨3, ![29824, 55, 1]⟩
abbrev S29824x55x2 : Shape := ⟨3, ![29824, 55, 2]⟩
abbrev S110x29824 : Shape := ⟨2, ![110, 29824]⟩
abbrev S110x14912x2 : Shape := ⟨3, ![110, 14912, 2]⟩
abbrev S110x64x14912 : Shape := ⟨3, ![110, 64, 14912]⟩
abbrev S110x14912x1 : Shape := ⟨3, ![110, 14912, 1]⟩
abbrev S110x14912 : Shape := ⟨2, ![110, 14912]⟩
abbrev S110x1x14912 : Shape := ⟨3, ![110, 1, 14912]⟩
abbrev S32x7040 : Shape := ⟨2, ![32, 7040]⟩
abbrev S32x14912 : Shape := ⟨2, ![32, 14912]⟩
abbrev S32x14912x1 : Shape := ⟨3, ![32, 14912, 1]⟩
abbrev S32x14912x2 : Shape := ⟨3, ![32, 14912, 2]⟩
abbrev S32x29824 : Shape := ⟨2, ![32, 29824]⟩

abbrev nBuf : Space → Nat
  | .hbm => 66
  | .vmem => 0
  | .smem => 0
  | _ => 0

abbrev bufTy : (tb : Table) → Fin (tcTables nBuf tb) → BufTy
  | .hbm, ⟨0, _⟩ => ⟨S32x1x7040, .bf16⟩
  | .hbm, ⟨1, _⟩ => ⟨S7040x14912, .i8⟩
  | .hbm, ⟨2, _⟩ => ⟨S29824x110, .bf16⟩
  | .hbm, ⟨3, _⟩ => ⟨S29824x55, .i8⟩
  | .hbm, ⟨4, _⟩ => ⟨S29824x55, .i32⟩
  | .hbm, ⟨5, _⟩ => ⟨S7040x14912, .i32⟩
  | .hbm, ⟨6, _⟩ => ⟨S_, .i32⟩
  | .hbm, ⟨7, _⟩ => ⟨S29824x55, .i32⟩
  | .hbm, ⟨8, _⟩ => ⟨S29824x55, .i32⟩
  | .hbm, ⟨9, _⟩ => ⟨S_, .i32⟩
  | .hbm, ⟨10, _⟩ => ⟨S29824x55, .i32⟩
  | .hbm, ⟨11, _⟩ => ⟨S29824x55, .i32⟩
  | .hbm, ⟨12, _⟩ => ⟨S_, .i32⟩
  | .hbm, ⟨13, _⟩ => ⟨S29824x55, .i32⟩
  | .hbm, ⟨14, _⟩ => ⟨S29824x55, .i32⟩
  | .hbm, ⟨15, _⟩ => ⟨S29824x55x1, .i32⟩
  | .hbm, ⟨16, _⟩ => ⟨S29824x55x1, .i32⟩
  | .hbm, ⟨17, _⟩ => ⟨S29824x55x2, .i32⟩
  | .hbm, ⟨18, _⟩ => ⟨S29824x110, .i32⟩
  | .hbm, ⟨19, _⟩ => ⟨S29824x110, .bf16⟩
  | .hbm, ⟨20, _⟩ => ⟨S110x29824, .bf16⟩
  | .hbm, ⟨21, _⟩ => ⟨S110x14912x2, .bf16⟩
  | .hbm, ⟨22, _⟩ => ⟨S110x29824, .bf16⟩
  | .hbm, ⟨23, _⟩ => ⟨S110x14912x2, .bf16⟩
  | .hbm, ⟨24, _⟩ => ⟨S110x64x14912, .i32⟩
  | .hbm, ⟨25, _⟩ => ⟨S_, .i32⟩
  | .hbm, ⟨26, _⟩ => ⟨S110x64x14912, .i32⟩
  | .hbm, ⟨27, _⟩ => ⟨S110x64x14912, .i32⟩
  | .hbm, ⟨28, _⟩ => ⟨S110x64x14912, .bf16⟩
  | .hbm, ⟨29, _⟩ => ⟨S_, .i32⟩
  | .hbm, ⟨30, _⟩ => ⟨S110x64x14912, .i32⟩
  | .hbm, ⟨31, _⟩ => ⟨S110x64x14912, .i32⟩
  | .hbm, ⟨32, _⟩ => ⟨S_, .i32⟩
  | .hbm, ⟨33, _⟩ => ⟨S110x64x14912, .i32⟩
  | .hbm, ⟨34, _⟩ => ⟨S110x64x14912, .i32⟩
  | .hbm, ⟨35, _⟩ => ⟨S110x64x14912, .bf16⟩
  | .hbm, ⟨36, _⟩ => ⟨S110x14912x1, .bf16⟩
  | .hbm, ⟨37, _⟩ => ⟨S110x14912, .bf16⟩
  | .hbm, ⟨38, _⟩ => ⟨S110x1x14912, .bf16⟩
  | .hbm, ⟨39, _⟩ => ⟨S110x64x14912, .bf16⟩
  | .hbm, ⟨40, _⟩ => ⟨S110x64x14912, .bf16⟩
  | .hbm, ⟨41, _⟩ => ⟨S110x14912x1, .bf16⟩
  | .hbm, ⟨42, _⟩ => ⟨S110x14912, .bf16⟩
  | .hbm, ⟨43, _⟩ => ⟨S110x1x14912, .bf16⟩
  | .hbm, ⟨44, _⟩ => ⟨S110x64x14912, .bf16⟩
  | .hbm, ⟨45, _⟩ => ⟨S110x64x14912, .bf16⟩
  | .hbm, ⟨46, _⟩ => ⟨S7040x14912, .bf16⟩
  | .hbm, ⟨47, _⟩ => ⟨S110x14912x1, .bf16⟩
  | .hbm, ⟨48, _⟩ => ⟨S110x14912, .bf16⟩
  | .hbm, ⟨49, _⟩ => ⟨S110x1x14912, .bf16⟩
  | .hbm, ⟨50, _⟩ => ⟨S110x64x14912, .bf16⟩
  | .hbm, ⟨51, _⟩ => ⟨S110x64x14912, .bf16⟩
  | .hbm, ⟨52, _⟩ => ⟨S110x14912x1, .bf16⟩
  | .hbm, ⟨53, _⟩ => ⟨S110x14912, .bf16⟩
  | .hbm, ⟨54, _⟩ => ⟨S110x1x14912, .bf16⟩
  | .hbm, ⟨55, _⟩ => ⟨S110x64x14912, .bf16⟩
  | .hbm, ⟨56, _⟩ => ⟨S110x64x14912, .bf16⟩
  | .hbm, ⟨57, _⟩ => ⟨S7040x14912, .bf16⟩
  | .hbm, ⟨58, _⟩ => ⟨S32x7040, .bf16⟩
  | .hbm, ⟨59, _⟩ => ⟨S32x14912, .f32⟩
  | .hbm, ⟨60, _⟩ => ⟨S32x14912, .f32⟩
  | .hbm, ⟨61, _⟩ => ⟨S32x14912x1, .f32⟩
  | .hbm, ⟨62, _⟩ => ⟨S32x14912x1, .f32⟩
  | .hbm, ⟨63, _⟩ => ⟨S32x14912x2, .f32⟩
  | .hbm, ⟨64, _⟩ => ⟨S32x29824, .f32⟩
  | .hbm, ⟨65, _⟩ => ⟨S32x29824, .bf16⟩
  | _, _ => ⟨S32x1x7040, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]
-- ==== Proof.KBody.lean ====
module

public import proofs.«01_k».proof.Proof.Gen.Kernel.Skeleton
public import proofs.«01_k».proof.Proof.Gen.Kernel.Launch
public import Idealize.ShloMosaic.Lib.Tactic

@[expose] public section

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

noncomputable def kernelRun (c : Dev nD) (i : grid0.Coords)
    (M1 : Memref sig .tc .vmem S64x14080 .bf16) (h1 : M1.IsWhole) (M2 : Memref sig .tc .vmem S7040x512 .i8) (h2 : M2.IsWhole)
    (M3 : Memref sig .tc .vmem S1024x110 .bf16) (h3 : M3.IsWhole) (M4 : Memref sig .tc .vmem S1024x55 .i8) (h4 : M4.IsWhole)
    (M5 : Memref sig .tc .vmem S32x1024 .bf16) (h5 : M5.IsWhole) (M6 : Memref sig .tc .vmem S110x512 .i32) (h6 : M6.IsWhole)
    (M7 : Memref sig .tc .vmem S2x55x512 .i32) (h7 : M7.IsWhole)
    (f1 : Bf (F := F) c M1) (f2 : Bf (F := F) c M2) (f3 : Bf (F := F) c M3) (f4 : Bf (F := F) c M4) :
    { W : Bf (F := F) c M5 //
      ∀ (f5 : Bf (F := F) c M5) (f6 : Bf (F := F) c M6) (f7 : Bf (F := F) c M7) (E : Set ℕ) (Q : PUnit → sProp 𝕄),
        iprop(pt c M1 f1 ∗ pt c M2 f2 ∗ pt c M3 f3 ∗ pt c M4 f4 ∗ pt c M5 f5 ∗ pt c M6 f6 ∗ pt c M7 f7
          ∗ (iprop(pt c M1 f1 ∗ pt c M2 f2 ∗ pt c M3 f3 ∗ pt c M4 f4 ∗ pt c M5 W
                ∗ (∃ f, pt c M6 f) ∗ (∃ f, pt c M7 f)) -∗ Q ⟨⟩))
        ⊢ wp frame (wpE (defs₀ (F := F)) Variants.none c none) E
            (cc0_awq_linear i M1 h1 M2 h2 M3 h3 M4 h4 M5 h5 M6 h6 M7 h7) Q } := by
  refine ⟨?_, fun f5 f6 f7 E Q => ?run⟩
  case run =>
    iintro ⟨H1, H2, H3, H4, H5, H6, H7, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexists _; iexact H6
    iexists _; iexact H7

end Cert.Kernel.Body

end
-- ==== Proof.KFrame.lean ====
module

public import proofs.«01_k».proof.Proof.KBody
public import proofs.«01_k».proof.Proof.Gen.Kernel.Frame
public import Idealize.ShloMosaic.Lib.Claim

/-! The run of the printed kernel: it terminates, leaves its arguments as they were and every semaphore at zero. The
result's window is forgotten: nothing is said of what its blocks hold. -/

@[expose] public section

noncomputable section

namespace Cert.Kernel.Run

open Cert.Kernel Cert.Kernel.Gen Cert.Kernel.Body

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- Some word of each element type, for the places past an array's end that nothing reads. -/
def zb : Elt F .bf16 := Scalar.ofBits .bf16 0#16

/-- The proof data: each input's buffer holds its block where that lies in the array; the result's is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#8 : BitVec 8)) (iblk m c 1 t)
    | ⟨2, _⟩ => win0_2.fill (grid0.coords t) (fun _ => zb) (iblk m c 2 t)
    | ⟨3, _⟩ => win0_3.fill (grid0.coords t) (fun _ => (0#8 : BitVec 8)) (iblk m c 3 t)
    | ⟨4, _⟩ => fun _ => zb
  Φ _ := Pipeline.ΦA spec0 c
  q _ := fullShare
  owed _ := 0

theorem A_eq (c : Dev nD) (w : Fin cfg0.W) : (dats m 0 c).A w = V m c (Pipeline.arrRef spec0 w) := by
  dsimp only [dats]

/-- Only the result's window is forgotten. -/
def fgt (w : Fin cfg0.W) : Bool := match w with
  | ⟨0, _⟩ => false | ⟨1, _⟩ => false | ⟨2, _⟩ => false | ⟨3, _⟩ => false | ⟨4, _⟩ => true

theorem after0_0 (c : Dev nD) (t : Fin cfg0.N) : (dats m 0 c).after 0 t = iblk m c 0 t := by dsimp only [dats]
theorem after0_1 (c : Dev nD) (t : Fin cfg0.N) : (dats m 0 c).after 1 t
    = win0_1.fill (grid0.coords t) (fun _ => (0#8 : BitVec 8)) (iblk m c 1 t) := by dsimp only [dats]
theorem after0_2 (c : Dev nD) (t : Fin cfg0.N) : (dats m 0 c).after 2 t
    = win0_2.fill (grid0.coords t) (fun _ => zb) (iblk m c 2 t) := by dsimp only [dats]
theorem after0_3 (c : Dev nD) (t : Fin cfg0.N) : (dats m 0 c).after 3 t
    = win0_3.fill (grid0.coords t) (fun _ => (0#8 : BitVec 8)) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before0_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
theorem before0_3 (c : Dev nD) (t : Fin cfg0.N) (d) :
    (dats m 0 c).before 3 t d = win0_3.fill (grid0.coords t) d (iblk m c 3 t) := by
  unfold Dat.before; rw [if_pos (fetch0_3 t)]; unfold Dat.fetched Dat.blockOf iblk; rw [A_eq]

/-- The body on whole memrefs, each named by what it reads. -/
theorem sound_kernel (c : Dev nD) (i : grid0.Coords)
    (M1 : Memref sig .tc .vmem S64x14080 .bf16) (h1 : M1.IsWhole) (M2 : Memref sig .tc .vmem S7040x512 .i8) (h2 : M2.IsWhole)
    (M3 : Memref sig .tc .vmem S1024x110 .bf16) (h3 : M3.IsWhole) (M4 : Memref sig .tc .vmem S1024x55 .i8) (h4 : M4.IsWhole)
    (M5 : Memref sig .tc .vmem S32x1024 .bf16) (h5 : M5.IsWhole)
    (x1 : Vec F S64x14080 .bf16) (x2 : Vec F S7040x512 .i8) (x3 : Vec F S1024x110 .bf16) (x4 : Vec F S1024x55 .i8)
    (K : PUnit → sProp 𝕄) :
    iprop(Pipeline.ΦA spec0 c ∗ owns (c : Thread nD τ) M1 fullShare x1 ∗ owns (c : Thread nD τ) M2 fullShare x2
        ∗ owns (c : Thread nD τ) M3 fullShare x3 ∗ owns (c : Thread nD τ) M4 fullShare x4
        ∗ (∃ d, owns (c : Thread nD τ) M5 fullShare d)
        ∗ (iprop(Pipeline.ΦA spec0 c ∗ owns (c : Thread nD τ) M1 fullShare x1 ∗ owns (c : Thread nD τ) M2 fullShare x2
          ∗ owns (c : Thread nD τ) M3 fullShare x3 ∗ owns (c : Thread nD τ) M4 fullShare x4
          ∗ (∃ d, owns (c : Thread nD τ) M5 fullShare d)) -∗ K ⟨⟩))
      ⊢ wp frame (wpE (defs₀ (F := F)) Variants.none c none) Set.univ
          (cc0_awq_linear i M1 h1 M2 h2 M3 h3 M4 h4 M5 h5 (Memref.whole cc0_scratch0) (Memref.isWhole_whole _)
            (Memref.whole cc0_scratch1) (Memref.isWhole_whole _)) K := by
  unfold Pipeline.ΦA
  rw [scopedRest0_eq]
  unfold owns
  iintro ⟨⟨⟨⟨%f6, H6⟩, ⟨%f7, H7⟩⟩, Hp⟩, ⟨%f1, %hf1, H1⟩, ⟨%f2, %hf2, H2⟩, ⟨%f3, %hf3, H3⟩, ⟨%f4, %hf4, H4⟩, ⟨%d5, %f5, -, H5⟩, Hk⟩
  rw [h1.set_eq_univ, h2.set_eq_univ, h3.set_eq_univ, h4.set_eq_univ, h5.set_eq_univ]
  iapply ((kernelRun (F := F) c i M1 h1 M2 h2 M3 h3 M4 h4 M5 h5 (Memref.whole cc0_scratch0) (Memref.isWhole_whole _)
            (Memref.whole cc0_scratch1) (Memref.isWhole_whole _) f1 f2 f3 f4).2 f5 f6 f7 Set.univ K)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  iapply Hk
  isplitl [H6 H7 Hp]
  · isplitl [H6 H7]
    · isplitl [H6]; · iexact H6
      iexact H7
    · iexact Hp
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  iexists _; iexists _; isplitr
  swap; · iexact H5
  ipureintro; rfl

theorem defs₀_row (t : Fin cfg0.N) :
    defs₀ (F := F) .tc cfg0.body (cfg0.bodyArgs t (cfg0.slots t)) = bodyAt0 t := by
  unfold defs₀; rw [Defs.onTc_tc]

/-- The body at a grid point. -/
theorem body_obligation (c : Dev nD) :
    BodyObligationLoose (dats (F := F) m 0 c) (defs₀ (F := F)) Variants.none () Set.univ fgt := fun t => by
  rw [bigSep_W0, bigSep_W0, defs₀_row]
  simp only [fgt]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  unfold bodyAt0
  iapply (sound_kernel (F := F) c (grid0.coords t) _ _ _ _ _ _ _ _ _ _ (iblk m c 0 t)
    (win0_1.fill (grid0.coords t) d1 (iblk m c 1 t)) (win0_2.fill (grid0.coords t) d2 (iblk m c 2 t))
    (win0_3.fill (grid0.coords t) d3 (iblk m c 3 t)) _)
  isplitl [HΦ]; · iexact HΦ
  isplitl [H0]; · iexact H0
  isplitl [H1]; · iexact H1
  isplitl [H2]; · iexact H2
  isplitl [H3]; · iexact H3
  isplitl [H4]; · iexists _; iexact H4
  iintro ⟨HΦ, H0, H1, H2, H3, H4⟩
  isplitl [HΦ]; · iexact HΦ
  isplitl [Ho]; · iexact Ho
  isplitl [H0]
  · change _ ⊢ owns (c : Thread nD τ) (st0_0 t) fullShare ((dats m 0 c).after 0 t)
    rw [after0_0]; try iexact H0
  isplitl [H1]
  · iexists d1
    change _ ⊢ owns (c : Thread nD τ) (st0_1 t) fullShare (win0_1.fill (grid0.coords t) d1 (win0_1.cut (grid0.coords t) ((dats m 0 c).after 1 t)))
    rw [after0_1, win0_1.cut_fill]; try iexact H1
  isplitl [H2]
  · iexists d2
    change _ ⊢ owns (c : Thread nD τ) (st0_2 t) fullShare (win0_2.fill (grid0.coords t) d2 (win0_2.cut (grid0.coords t) ((dats m 0 c).after 2 t)))
    rw [after0_2, win0_2.cut_fill]; try iexact H2
  isplitl [H3]
  · iexists d3
    change _ ⊢ owns (c : Thread nD τ) (st0_3 t) fullShare (win0_3.fill (grid0.coords t) d3 (win0_3.cut (grid0.coords t) ((dats m 0 c).after 3 t)))
    rw [after0_3, win0_3.cut_fill]; try iexact H3
  iexact H4

set_option backward.isDefEq.respectTransparency.types false in
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The arguments end as they were, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (Pipeline.mem_restRefs_of main_arg0 (by decide) (by decide))).trans (V_main_arg0 m c),
      (((dats m 0 c).toRForget_arrAt_iff (fgt := fgt) (w := 1) rfl _ _).mp ((h.1 c).1 1)).trans
        (((dats m 0 c).arrAt_in 1 rfl _).trans ((A_eq m c 1).trans (V_main_arg1 m c))),
      (((dats m 0 c).toRForget_arrAt_iff (fgt := fgt) (w := 2) rfl _ _).mp ((h.1 c).1 2)).trans
        (((dats m 0 c).arrAt_in 2 rfl _).trans ((A_eq m c 2).trans (V_main_arg2 m c))),
      (((dats m 0 c).toRForget_arrAt_iff (fgt := fgt) (w := 3) rfl _ _).mp ((h.1 c).1 3)).trans
        (((dats m 0 c).arrAt_in 3 rfl _).trans ((A_eq m c 3).trans (V_main_arg3 m c)))⟩, h.2⟩) (run_main m ρ)

end Cert.Kernel.Run

end
-- ==== Proof.Body.lean ====
module

public import proofs.«01_k».proof.Proof.Gen.KernelIdeal.Skeleton
public import proofs.«01_k».proof.Proof.Gen.KernelIdeal.Launch
public import Idealize.ShloMosaic.Lib.Tactic

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

noncomputable def kernelRun (c : Dev nD) (i : grid0.Coords)
    (M1 : Memref sig .tc .vmem S64x14080 .bf16) (h1 : M1.IsWhole) (M2 : Memref sig .tc .vmem S7040x512 .i8) (h2 : M2.IsWhole)
    (M3 : Memref sig .tc .vmem S1024x110 .bf16) (h3 : M3.IsWhole) (M4 : Memref sig .tc .vmem S1024x55 .i8) (h4 : M4.IsWhole)
    (M5 : Memref sig .tc .vmem S32x1024 .bf16) (h5 : M5.IsWhole) (M6 : Memref sig .tc .vmem S110x2x512 .bf16) (h6 : M6.IsWhole)
    (M7 : Memref sig .tc .vmem S2x55x2x512 .bf16) (h7 : M7.IsWhole)
    (f1 : Bf (F := F) c M1) (f2 : Bf (F := F) c M2) (f3 : Bf (F := F) c M3) (f4 : Bf (F := F) c M4) :
    { W : Bf (F := F) c M5 //
      ∀ (f5 : Bf (F := F) c M5) (f6 : Bf (F := F) c M6) (f7 : Bf (F := F) c M7) (E : Set ℕ) (Q : PUnit → sProp 𝕄),
        iprop(pt c M1 f1 ∗ pt c M2 f2 ∗ pt c M3 f3 ∗ pt c M4 f4 ∗ pt c M5 f5 ∗ pt c M6 f6 ∗ pt c M7 f7
          ∗ (iprop(pt c M1 f1 ∗ pt c M2 f2 ∗ pt c M3 f3 ∗ pt c M4 f4 ∗ pt c M5 W
                ∗ (∃ f, pt c M6 f) ∗ (∃ f, pt c M7 f)) -∗ Q ⟨⟩))
        ⊢ wp frame (wpE (defs₀ (F := F)) Variants.none c none) E
            (cc0_awq_linear i M1 h1 M2 h2 M3 h3 M4 h4 M5 h5 M6 h6 M7 h7) Q } := by
  refine ⟨?_, fun f5 f6 f7 E Q => ?run⟩
  case run =>
    iintro ⟨H1, H2, H3, H4, H5, H6, H7, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexists _; iexact H6
    iexists _; iexact H7

end Cert.KernelIdeal.Body

end
-- ==== Proof.IFrame.lean ====
module

public import proofs.«01_k».proof.Proof.Body
public import proofs.«01_k».proof.Proof.Gen.KernelIdeal.Frame
public import Idealize.ShloMosaic.Lib.Claim

/-! The run of the idealized kernel: it terminates, leaves its arguments as they were and every semaphore at zero. The
result's window is forgotten: nothing is said of what its blocks hold. -/

@[expose] public section

noncomputable section

namespace Cert.KernelIdeal.Run

open Cert.KernelIdeal Cert.KernelIdeal.Gen Cert.KernelIdeal.Body

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Some word of each element type, for the places past an array's end that nothing reads. -/
def zb : Elt F .bf16 := Scalar.ofBits .bf16 0#16

/-- The proof data: each input's buffer holds its block where that lies in the array; the result's is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#8 : BitVec 8)) (iblk m c 1 t)
    | ⟨2, _⟩ => win0_2.fill (grid0.coords t) (fun _ => zb) (iblk m c 2 t)
    | ⟨3, _⟩ => win0_3.fill (grid0.coords t) (fun _ => (0#8 : BitVec 8)) (iblk m c 3 t)
    | ⟨4, _⟩ => fun _ => zb
  Φ _ := Pipeline.ΦA spec0 c
  q _ := fullShare
  owed _ := 0

theorem A_eq (c : Dev nD) (w : Fin cfg0.W) : (dats m 0 c).A w = V m c (Pipeline.arrRef spec0 w) := by
  dsimp only [dats]

/-- Only the result's window is forgotten. -/
def fgt (w : Fin cfg0.W) : Bool := match w with
  | ⟨0, _⟩ => false | ⟨1, _⟩ => false | ⟨2, _⟩ => false | ⟨3, _⟩ => false | ⟨4, _⟩ => true

theorem after0_0 (c : Dev nD) (t : Fin cfg0.N) : (dats m 0 c).after 0 t = iblk m c 0 t := by dsimp only [dats]
theorem after0_1 (c : Dev nD) (t : Fin cfg0.N) : (dats m 0 c).after 1 t
    = win0_1.fill (grid0.coords t) (fun _ => (0#8 : BitVec 8)) (iblk m c 1 t) := by dsimp only [dats]
theorem after0_2 (c : Dev nD) (t : Fin cfg0.N) : (dats m 0 c).after 2 t
    = win0_2.fill (grid0.coords t) (fun _ => zb) (iblk m c 2 t) := by dsimp only [dats]
theorem after0_3 (c : Dev nD) (t : Fin cfg0.N) : (dats m 0 c).after 3 t
    = win0_3.fill (grid0.coords t) (fun _ => (0#8 : BitVec 8)) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before0_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
theorem before0_3 (c : Dev nD) (t : Fin cfg0.N) (d) :
    (dats m 0 c).before 3 t d = win0_3.fill (grid0.coords t) d (iblk m c 3 t) := by
  unfold Dat.before; rw [if_pos (fetch0_3 t)]; unfold Dat.fetched Dat.blockOf iblk; rw [A_eq]

/-- The body on whole memrefs, each named by what it reads. -/
theorem sound_kernel (c : Dev nD) (i : grid0.Coords)
    (M1 : Memref sig .tc .vmem S64x14080 .bf16) (h1 : M1.IsWhole) (M2 : Memref sig .tc .vmem S7040x512 .i8) (h2 : M2.IsWhole)
    (M3 : Memref sig .tc .vmem S1024x110 .bf16) (h3 : M3.IsWhole) (M4 : Memref sig .tc .vmem S1024x55 .i8) (h4 : M4.IsWhole)
    (M5 : Memref sig .tc .vmem S32x1024 .bf16) (h5 : M5.IsWhole)
    (x1 : Vec F S64x14080 .bf16) (x2 : Vec F S7040x512 .i8) (x3 : Vec F S1024x110 .bf16) (x4 : Vec F S1024x55 .i8)
    (K : PUnit → sProp 𝕄) :
    iprop(Pipeline.ΦA spec0 c ∗ owns (c : Thread nD τ) M1 fullShare x1 ∗ owns (c : Thread nD τ) M2 fullShare x2
        ∗ owns (c : Thread nD τ) M3 fullShare x3 ∗ owns (c : Thread nD τ) M4 fullShare x4
        ∗ (∃ d, owns (c : Thread nD τ) M5 fullShare d)
        ∗ (iprop(Pipeline.ΦA spec0 c ∗ owns (c : Thread nD τ) M1 fullShare x1 ∗ owns (c : Thread nD τ) M2 fullShare x2
          ∗ owns (c : Thread nD τ) M3 fullShare x3 ∗ owns (c : Thread nD τ) M4 fullShare x4
          ∗ (∃ d, owns (c : Thread nD τ) M5 fullShare d)) -∗ K ⟨⟩))
      ⊢ wp frame (wpE (defs₀ (F := F)) Variants.none c none) Set.univ
          (cc0_awq_linear i M1 h1 M2 h2 M3 h3 M4 h4 M5 h5 (Memref.whole cc0_scratch0) (Memref.isWhole_whole _)
            (Memref.whole cc0_scratch1) (Memref.isWhole_whole _)) K := by
  unfold Pipeline.ΦA
  rw [scopedRest0_eq]
  unfold owns
  iintro ⟨⟨⟨⟨%f6, H6⟩, ⟨%f7, H7⟩⟩, Hp⟩, ⟨%f1, %hf1, H1⟩, ⟨%f2, %hf2, H2⟩, ⟨%f3, %hf3, H3⟩, ⟨%f4, %hf4, H4⟩, ⟨%d5, %f5, -, H5⟩, Hk⟩
  rw [h1.set_eq_univ, h2.set_eq_univ, h3.set_eq_univ, h4.set_eq_univ, h5.set_eq_univ]
  iapply ((kernelRun (F := F) c i M1 h1 M2 h2 M3 h3 M4 h4 M5 h5 (Memref.whole cc0_scratch0) (Memref.isWhole_whole _)
            (Memref.whole cc0_scratch1) (Memref.isWhole_whole _) f1 f2 f3 f4).2 f5 f6 f7 Set.univ K)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  iapply Hk
  isplitl [H6 H7 Hp]
  · isplitl [H6 H7]
    · isplitl [H6]; · iexact H6
      iexact H7
    · iexact Hp
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  iexists _; iexists _; isplitr
  swap; · iexact H5
  ipureintro; rfl

theorem defs₀_row (t : Fin cfg0.N) :
    defs₀ (F := F) .tc cfg0.body (cfg0.bodyArgs t (cfg0.slots t)) = bodyAt0 t := by
  unfold defs₀; rw [Defs.onTc_tc]

/-- The body at a grid point. -/
theorem body_obligation (c : Dev nD) :
    BodyObligationLoose (dats (F := F) m 0 c) (defs₀ (F := F)) Variants.none () Set.univ fgt := fun t => by
  rw [bigSep_W0, bigSep_W0, defs₀_row]
  simp only [fgt]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  unfold bodyAt0
  iapply (sound_kernel (F := F) c (grid0.coords t) _ _ _ _ _ _ _ _ _ _ (iblk m c 0 t)
    (win0_1.fill (grid0.coords t) d1 (iblk m c 1 t)) (win0_2.fill (grid0.coords t) d2 (iblk m c 2 t))
    (win0_3.fill (grid0.coords t) d3 (iblk m c 3 t)) _)
  isplitl [HΦ]; · iexact HΦ
  isplitl [H0]; · iexact H0
  isplitl [H1]; · iexact H1
  isplitl [H2]; · iexact H2
  isplitl [H3]; · iexact H3
  isplitl [H4]; · iexists _; iexact H4
  iintro ⟨HΦ, H0, H1, H2, H3, H4⟩
  isplitl [HΦ]; · iexact HΦ
  isplitl [Ho]; · iexact Ho
  isplitl [H0]
  · change _ ⊢ owns (c : Thread nD τ) (st0_0 t) fullShare ((dats m 0 c).after 0 t)
    rw [after0_0]; try iexact H0
  isplitl [H1]
  · iexists d1
    change _ ⊢ owns (c : Thread nD τ) (st0_1 t) fullShare (win0_1.fill (grid0.coords t) d1 (win0_1.cut (grid0.coords t) ((dats m 0 c).after 1 t)))
    rw [after0_1, win0_1.cut_fill]; try iexact H1
  isplitl [H2]
  · iexists d2
    change _ ⊢ owns (c : Thread nD τ) (st0_2 t) fullShare (win0_2.fill (grid0.coords t) d2 (win0_2.cut (grid0.coords t) ((dats m 0 c).after 2 t)))
    rw [after0_2, win0_2.cut_fill]; try iexact H2
  isplitl [H3]
  · iexists d3
    change _ ⊢ owns (c : Thread nD τ) (st0_3 t) fullShare (win0_3.fill (grid0.coords t) d3 (win0_3.cut (grid0.coords t) ((dats m 0 c).after 3 t)))
    rw [after0_3, win0_3.cut_fill]; try iexact H3
  iexact H4

set_option backward.isDefEq.respectTransparency.types false in
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The arguments end as they were, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (Pipeline.mem_restRefs_of main_arg0 (by decide) (by decide))).trans (V_main_arg0 m c),
      (((dats m 0 c).toRForget_arrAt_iff (fgt := fgt) (w := 1) rfl _ _).mp ((h.1 c).1 1)).trans
        (((dats m 0 c).arrAt_in 1 rfl _).trans ((A_eq m c 1).trans (V_main_arg1 m c))),
      (((dats m 0 c).toRForget_arrAt_iff (fgt := fgt) (w := 2) rfl _ _).mp ((h.1 c).1 2)).trans
        (((dats m 0 c).arrAt_in 2 rfl _).trans ((A_eq m c 2).trans (V_main_arg2 m c))),
      (((dats m 0 c).toRForget_arrAt_iff (fgt := fgt) (w := 3) rfl _ _).mp ((h.1 c).1 3)).trans
        (((dats m 0 c).arrAt_in 3 rfl _).trans ((A_eq m c 3).trans (V_main_arg3 m c)))⟩, h.2⟩) (run_main m ρ)

end Cert.KernelIdeal.Run

end
-- ==== Proof.Chain.lean ====
module

public import proofs.«01_k».proof.Proof.Body

/-! The body's accumulator is the iteration of one step, and each step one product of a column block of the left operand
with two dequantized row blocks of the packed weights. -/

@[expose] public section

noncomputable section

namespace Cert.KernelIdeal.Chain

open Cert.KernelIdeal Cert.KernelIdeal.Gen Cert.KernelIdeal.Body

open Idealize.ShloMosaic
open Idealize.ShloMosaic.TcCoe

variable {F : FTy → Type} [FloatOps F]

/-- The 4-bit fields of 64 rows of bytes as 128 rows: the low field of a byte above its high one. -/
def fields (w : Vec F S64x512 .i8) : FVec F S128x512 .bf16 :=
  sitofp .bf16 (bitcast S128x512 16 (ori (andi (extui 32 w natLt_8_32) (broadcast S64x512 15#32))
    (shli (shrsi (extui 32 w natLt_8_32) (broadcast S64x512 4#32)) (broadcast S64x512 16#32))) bitcasts_S64x512_w32_S128x512_w16)

/-- Two rows repeated in turn to sixteen. -/
def rows16 (lo hi : FVec F S1x512 .bf16) : FVec F S1x16x512 .bf16 :=
  shapeCast S1x16x512 (interleaveRows S16x512
    (concatenate S8x512 0 [⟨S1x512, lo⟩, ⟨S1x512, lo⟩, ⟨S1x512, lo⟩, ⟨S1x512, lo⟩, ⟨S1x512, lo⟩, ⟨S1x512, lo⟩, ⟨S1x512, lo⟩, ⟨S1x512, lo⟩] concatenates_S1x512_S1x512_S1x512_S1x512_S1x512_S1x512_S1x512_S1x512_S8x512_d0)
    (concatenate S8x512 0 [⟨S1x512, hi⟩, ⟨S1x512, hi⟩, ⟨S1x512, hi⟩, ⟨S1x512, hi⟩, ⟨S1x512, hi⟩, ⟨S1x512, hi⟩, ⟨S1x512, hi⟩, ⟨S1x512, hi⟩] concatenates_S1x512_S1x512_S1x512_S1x512_S1x512_S1x512_S1x512_S1x512_S8x512_d0)
    bitcasts_S16x512_w16_S8x512_w32) shapeCasts_S16x512_S1x16x512

/-- A pair of zero-point rows, and a pair of scale rows, each repeated to sixteen rows. -/
def zero16 (z : Vec F S1x1x2x512 .bf16) : FVec F S1x16x512 .bf16 :=
  rows16 (shapeCast S1x512 (shapeCast S1x1x512 (rowsOfParity 0 S1x1x1x512 z bitcasts_S1x1x2x512_w16_S1x1x1x512_w32) shapeCasts_S1x1x1x512_S1x1x512) shapeCasts_S1x1x512_S1x512)
    (shapeCast S1x512 (shapeCast S1x1x512 (rowsOfParity 1 S1x1x1x512 z bitcasts_S1x1x2x512_w16_S1x1x1x512_w32) shapeCasts_S1x1x1x512_S1x1x512) shapeCasts_S1x1x512_S1x512)
def scale16 (s : Vec F S1x2x512 .bf16) : FVec F S1x16x512 .bf16 :=
  rows16 (shapeCast S1x512 (rowsOfParity 0 S1x1x512 s bitcasts_S1x2x512_w16_S1x1x512_w32) shapeCasts_S1x1x512_S1x512)
    (shapeCast S1x512 (rowsOfParity 1 S1x1x512 s bitcasts_S1x2x512_w16_S1x1x512_w32) shapeCasts_S1x1x512_S1x512)

/-- One group's dequantized rows: `(field - zero) * scale`. -/
def tile (w : Vec F S64x512 .i8) (z : Vec F S1x1x2x512 .bf16) (s : Vec F S1x2x512 .bf16) : FVec F S128x512 .bf16 :=
  shapeCast S128x512 (mulf (subf (shapeCast S8x16x512 (fields w) shapeCasts_S128x512_S8x16x512)
      (broadcastTo S8x16x512 (zero16 z) broadcasts_S1x16x512_S8x16x512))
    (broadcastTo S8x16x512 (scale16 s) broadcasts_S1x16x512_S8x16x512)) shapeCasts_S8x16x512_S128x512

/-- Two groups' rows one above the other. -/
def pair (a b : FVec F S128x512 .bf16) : FVec F S256x512 .bf16 :=
  concatenate S256x512 0 [⟨S128x512, a⟩, ⟨S128x512, b⟩] concatenates_S128x512_S128x512_S256x512_d0

/-- One product added to the accumulator. -/
def addDot (acc : FVec F S64x512 .f32) (x : Vec F S64x256 .bf16) (w : FVec F S256x512 .bf16) : FVec F S64x512 .f32 :=
  addf acc (matmul dot_S64x256_S256x512_S64x512_1_0_0_1_n_n none (shapeCast S64x256 x shapeCasts_S64x256_S64x256) w
    (constant S64x512 .f32 0x00000000#32))

theorem inbX (t : Fin 55) : ∀ a, (![0, 256 * t.val] : Fin S64x14080.rank → ℕ) a + S64x256.size a ≤ S64x14080.size a := by
  have := t.isLt; intro a; fin_cases a <;> simp [S64x14080, S64x256] <;> omega
theorem inbW (g : Fin 110) : ∀ a, (![64 * g.val, 0] : Fin S7040x512.rank → ℕ) a + S64x512.size a ≤ S7040x512.size a := by
  have := g.isLt; intro a; fin_cases a <;> simp [S7040x512, S64x512] <;> omega
theorem inbS (g : Fin 110) : ∀ a, (![g.val, 0, 0] : Fin S110x2x512.rank → ℕ) a + S1x2x512.size a ≤ S110x2x512.size a := by
  have := g.isLt; intro a; fin_cases a <;> simp [S110x2x512, S1x2x512] <;> omega
theorem inbZ (h : Fin 2) (t : Fin 55) : ∀ a, (![h.val, t.val, 0, 0] : Fin S2x55x2x512.rank → ℕ) a + S1x1x2x512.size a ≤ S2x55x2x512.size a := by
  have := t.isLt; have := h.isLt; intro a; fin_cases a <;> simp [S2x55x2x512, S1x1x2x512] <;> omega

variable (c : Dev nD)
    (M1 : Memref sig .tc .vmem S64x14080 .bf16) (M2 : Memref sig .tc .vmem S7040x512 .i8)
    (M3 : Memref sig .tc .vmem S1024x110 .bf16) (M4 : Memref sig .tc .vmem S1024x55 .i8)
    (M6 : Memref sig .tc .vmem S110x2x512 .bf16) (M7 : Memref sig .tc .vmem S2x55x2x512 .bf16)
    (f1 : Bf (F := F) c M1) (f2 : Bf (F := F) c M2) (f3 : Bf (F := F) c M3) (f4 : Bf (F := F) c M4)

def xAt (t : Fin 55) : Vec F S64x256 .bf16 := View.readAt (Elt F) M1.view (Rect.unit (s := S64x14080) ![0, 256 * t.val] S64x256.size (inbX t)).toLoadRect f1
def wAt (g : Fin 110) : Vec F S64x512 .i8 := View.readAt (Elt F) M2.view (Rect.unit (s := S7040x512) ![64 * g.val, 0] S64x512.size (inbW g)).toLoadRect f2
def sAt (g : Fin 110) : Vec F S1x2x512 .bf16 :=
  M6.view.readCov (kernelRun.sl.H6_1 c M3 f3) (Rect.unit (s := S110x2x512) ![g.val, 0, 0] S1x2x512.size (inbS g)).toLoadRect
def zAt (h : Fin 2) (t : Fin 55) : Vec F S1x1x2x512 .bf16 :=
  M7.view.readCov (kernelRun.sl.H7_2 c M4 f4) (Rect.unit (s := S2x55x2x512) ![h.val, t.val, 0, 0] S1x1x2x512.size (inbZ h t)).toLoadRect

/-- Group `2 t + h`. -/
def grp (t : Fin 55) (h : Fin 2) : Fin 110 := ⟨2 * t.val + h.val, by omega⟩

def tileAt (t : Fin 55) (h : Fin 2) : FVec F S128x512 .bf16 :=
  tile (wAt c M2 f2 (grp t h)) (zAt c M4 M7 f4 h t) (sAt c M3 M6 f3 (grp t h))

def step (acc : FVec F S64x512 .f32) (t : Fin 55) : FVec F S64x512 .f32 :=
  addDot acc (xAt c M1 f1 t) (pair (tileAt c M2 M3 M4 M6 M7 f2 f3 f4 t 0) (tileAt c M2 M3 M4 M6 M7 f2 f3 f4 t 1))

/-- The accumulator after `n` steps. -/
def accN : ℕ → FVec F S64x512 .f32
  | 0 => k0_pay9
  | n + 1 => step c M1 M2 M3 M4 M6 M7 f1 f2 f3 f4 (accN n) (Fin.ofNat 55 n)

/-! The body's accumulators in order: each by the step from the one before. -/
theorem r_7 : kernelRun.sl.r_7 c M1 M2 M3 M4 M6 M7 f1 f2 f3 f4 = accN c M1 M2 M3 M4 M6 M7 f1 f2 f3 f4 1 := rfl
theorem r_11 : kernelRun.sl.r_11 c M1 M2 M3 M4 M6 M7 f1 f2 f3 f4 = accN c M1 M2 M3 M4 M6 M7 f1 f2 f3 f4 2 :=
  Eq.trans (b := step c M1 M2 M3 M4 M6 M7 f1 f2 f3 f4 (kernelRun.sl.r_7 c M1 M2 M3 M4 M6 M7 f1 f2 f3 f4) 1) rfl (congrArg (step c M1 M2 M3 M4 M6 M7 f1 f2 f3 f4 · 1) (r_7 c M1 M2 M3 M4 M6 M7 f1 f2 f3 f4))
theorem r_18 : kernelRun.sl.r_18 c M1 M2 M3 M4 M6 M7 f1 f2 f3 f4 = accN c M1 M2 M3 M4 M6 M7 f1 f2 f3 f4 3 :=
  Eq.trans (b := step c M1 M2 M3 M4 M6 M7 f1 f2 f3 f4 (kernelRun.sl.r_11 c M1 M2 M3 M4 M6 M7 f1 f2 f3 f4) 2) rfl (congrArg (step c M1 M2 M3 M4 M6 M7 f1 f2 f3 f4 · 2) (r_11 c M1 M2 M3 M4 M6 M7 f1 f2 f3 f4))
theorem r_21 : kernelRun.sl.r_21 c M1 M2 M3 M4 M6 M7 f1 f2 f3 f4 = accN c M1 M2 M3 M4 M6 M7 f1 f2 f3 f4 4 :=
  Eq.trans (b := step c M1 M2 M3 M4 M6 M7 f1 f2 f3 f4 (kernelRun.sl.r_18 c M1 M2 M3 M4 M6 M7 f1 f2 f3 f4) 3) rfl (congrArg (step c M1 M2 M3 M4 M6 M7 f1 f2 f3 f4 · 3) (r_18 c M1 M2 M3 M4 M6 M7 f1 f2 f3 f4))
theorem r_26 : kernelRun.sl.r_26 c M1 M2 M3 M4 M6 M7 f1 f2 f3 f4 = accN c M1 M2 M3 M4 M6 M7 f1 f2 f3 f4 5 :=
  Eq.trans (b := step c M1 M2 M3 M4 M6 M7 f1 f2 f3 f4 (kernelRun.sl.r_21 c M1 M2 M3 M4 M6 M7 f1 f2 f3 f4) 4) rfl (congrArg (step c M1 M2 M3 M4 M6 M7 f1 f2 f3 f4 · 4) (r_21 c M1 M2 M3 M4 M6 M7 f1 f2 f3 f4))
theorem r_29 : kernelRun.sl.r_29 c M1 M2 M3 M4 M6 M7 f1 f2 f3 f4 = accN c M1 M2 M3 M4 M6 M7 f1 f2 f3 f4 6 :=
  Eq.trans (b := step c M1 M2 M3 M4 M6 M7 f1 f2 f3 f4 (kernelRun.sl.r_26 c M1 M2 M3 M4 M6 M7 f1 f2 f3 f4) 5) rfl (congrArg (step c M1 M2 M3 M4 M6 M7 f1 f2 f3 f4 · 5) (r_26 c M1 M2 M3 M4 M6 M7 f1 f2 f3 f4))
theorem r_35 : kernelRun.sl.r_35 c M1 M2 M3 M4 M6 M7 f1 f2 f3 f4 = accN c M1 M2 M3 M4 M6 M7 f1 f2 f3 f4 7 :=
  Eq.trans (b := step c M1 M2 M3 M4 M6 M7 f1 f2 f3 f4 (kernelRun.sl.r_29 c M1 M2 M3 M4 M6 M7 f1 f2 f3 f4) 6) rfl (congrArg (step c M1 M2 M3 M4 M6 M7 f1 f2 f3 f4 · 6) (r_29 c M1 M2 M3 M4 M6 M7 f1 f2 f3 f4))
theorem r_40 : kernelRun.sl.r_40 c M1 M2 M3 M4 M6 M7 f1 f2 f3 f4 = accN c M1 M2 M3 M4 M6 M7 f1 f2 f3 f4 8 :=
  Eq.trans (b := step c M1 M2 M3 M4 M6 M7 f1 f2 f3 f4 (kernelRun.sl.r_35 c M1 M2 M3 M4 M6 M7 f1 f2 f3 f4) 7) rfl (congrArg (step c M1 M2 M3 M4 M6 M7 f1 f2 f3 f4 · 7) (r_35 c M1 M2 M3 M4 M6 M7 f1 f2 f3 f4))
theorem r_43 : kernelRun.sl.r_43 c M1 M2 M3 M4 M6 M7 f1 f2 f3 f4 = accN c M1 M2 M3 M4 M6 M7 f1 f2 f3 f4 9 :=
  Eq.trans (b := step c M1 M2 M3 M4 M6 M7 f1 f2 f3 f4 (kernelRun.sl.r_40 c M1 M2 M3 M4 M6 M7 f1 f2 f3 f4) 8) rfl (congrArg (step c M1 M2 M3 M4 M6 M7 f1 f2 f3 f4 · 8) (r_40 c M1 M2 M3 M4 M6 M7 f1 f2 f3 f4))
theorem r_50 : kernelRun.sl.r_50 c M1 M2 M3 M4 M6 M7 f1 f2 f3 f4 = accN c M1 M2 M3 M4 M6 M7 f1 f2 f3 f4 10 :=
  Eq.trans (b := step c M1 M2 M3 M4 M6 M7 f1 f2 f3 f4 (kernelRun.sl.r_43 c M1 M2 M3 M4 M6 M7 f1 f2 f3 f4) 9) rfl (congrArg (step c M1 M2 M3 M4 M6 M7 f1 f2 f3 f4 · 9) (r_43 c M1 M2 M3 M4 M6 M7 f1 f2 f3 f4))
theorem r_54 : kernelRun.sl.r_54 c M1 M2 M3 M4 M6 M7 f1 f2 f3 f4 = accN c M1 M2 M3 M4 M6 M7 f1 f2 f3 f4 11 :=
  Eq.trans (b := step c M1 M2 M3 M4 M6 M7 f1 f2 f3 f4 (kernelRun.sl.r_50 c M1 M2 M3 M4 M6 M7 f1 f2 f3 f4) 10) rfl (congrArg (step c M1 M2 M3 M4 M6 M7 f1 f2 f3 f4 · 10) (r_50 c M1 M2 M3 M4 M6 M7 f1 f2 f3 f4))
theorem r_60 : kernelRun.sl.r_60 c M1 M2 M3 M4 M6 M7 f1 f2 f3 f4 = accN c M1 M2 M3 M4 M6 M7 f1 f2 f3 f4 12 :=
  Eq.trans (b := step c M1 M2 M3 M4 M6 M7 f1 f2 f3 f4 (kernelRun.sl.r_54 c M1 M2 M3 M4 M6 M7 f1 f2 f3 f4) 11) rfl (congrArg (step c M1 M2 M3 M4 M6 M7 f1 f2 f3 f4 · 11) (r_54 c M1 M2 M3 M4 M6 M7 f1 f2 f3 f4))
theorem r_62 : kernelRun.sl.r_62 c M1 M2 M3 M4 M6 M7 f1 f2 f3 f4 = accN c M1 M2 M3 M4 M6 M7 f1 f2 f3 f4 13 :=
  Eq.trans (b := step c M1 M2 M3 M4 M6 M7 f1 f2 f3 f4 (kernelRun.sl.r_60 c M1 M2 M3 M4 M6 M7 f1 f2 f3 f4) 12) rfl (congrArg (step c M1 M2 M3 M4 M6 M7 f1 f2 f3 f4 · 12) (r_60 c M1 M2 M3 M4 M6 M7 f1 f2 f3 f4))
theorem r_69 : kernelRun.sl.r_69 c M1 M2 M3 M4 M6 M7 f1 f2 f3 f4 = accN c M1 M2 M3 M4 M6 M7 f1 f2 f3 f4 14 :=
  Eq.trans (b := step c M1 M2 M3 M4 M6 M7 f1 f2 f3 f4 (kernelRun.sl.r_62 c M1 M2 M3 M4 M6 M7 f1 f2 f3 f4) 13) rfl (congrArg (step c M1 M2 M3 M4 M6 M7 f1 f2 f3 f4 · 13) (r_62 c M1 M2 M3 M4 M6 M7 f1 f2 f3 f4))
theorem r_74 : kernelRun.sl.r_74 c M1 M2 M3 M4 M6 M7 f1 f2 f3 f4 = accN c M1 M2 M3 M4 M6 M7 f1 f2 f3 f4 15 :=
  Eq.trans (b := step c M1 M2 M3 M4 M6 M7 f1 f2 f3 f4 (kernelRun.sl.r_69 c M1 M2 M3 M4 M6 M7 f1 f2 f3 f4) 14) rfl (congrArg (step c M1 M2 M3 M4 M6 M7 f1 f2 f3 f4 · 14) (r_69 c M1 M2 M3 M4 M6 M7 f1 f2 f3 f4))
theorem r_77 : kernelRun.sl.r_77 c M1 M2 M3 M4 M6 M7 f1 f2 f3 f4 = accN c M1 M2 M3 M4 M6 M7 f1 f2 f3 f4 16 :=
  Eq.trans (b := step c M1 M2 M3 M4 M6 M7 f1 f2 f3 f4 (kernelRun.sl.r_74 c M1 M2 M3 M4 M6 M7 f1 f2 f3 f4) 15) rfl (congrArg (step c M1 M2 M3 M4 M6 M7 f1 f2 f3 f4 · 15) (r_74 c M1 M2 M3 M4 M6 M7 f1 f2 f3 f4))
theorem r_83 : kernelRun.sl.r_83 c M1 M2 M3 M4 M6 M7 f1 f2 f3 f4 = accN c M1 M2 M3 M4 M6 M7 f1 f2 f3 f4 17 :=
  Eq.trans (b := step c M1 M2 M3 M4 M6 M7 f1 f2 f3 f4 (kernelRun.sl.r_77 c M1 M2 M3 M4 M6 M7 f1 f2 f3 f4) 16) rfl (congrArg (step c M1 M2 M3 M4 M6 M7 f1 f2 f3 f4 · 16) (r_77 c M1 M2 M3 M4 M6 M7 f1 f2 f3 f4))
theorem r_87 : kernelRun.sl.r_87 c M1 M2 M3 M4 M6 M7 f1 f2 f3 f4 = accN c M1 M2 M3 M4 M6 M7 f1 f2 f3 f4 18 :=
  Eq.trans (b := step c M1 M2 M3 M4 M6 M7 f1 f2 f3 f4 (kernelRun.sl.r_83 c M1 M2 M3 M4 M6 M7 f1 f2 f3 f4) 17) rfl (congrArg (step c M1 M2 M3 M4 M6 M7 f1 f2 f3 f4 · 17) (r_83 c M1 M2 M3 M4 M6 M7 f1 f2 f3 f4))
theorem r_94 : kernelRun.sl.r_94 c M1 M2 M3 M4 M6 M7 f1 f2 f3 f4 = accN c M1 M2 M3 M4 M6 M7 f1 f2 f3 f4 19 :=
  Eq.trans (b := step c M1 M2 M3 M4 M6 M7 f1 f2 f3 f4 (kernelRun.sl.r_87 c M1 M2 M3 M4 M6 M7 f1 f2 f3 f4) 18) rfl (congrArg (step c M1 M2 M3 M4 M6 M7 f1 f2 f3 f4 · 18) (r_87 c M1 M2 M3 M4 M6 M7 f1 f2 f3 f4))
theorem r_96 : kernelRun.sl.r_96 c M1 M2 M3 M4 M6 M7 f1 f2 f3 f4 = accN c M1 M2 M3 M4 M6 M7 f1 f2 f3 f4 20 :=
  Eq.trans (b := step c M1 M2 M3 M4 M6 M7 f1 f2 f3 f4 (kernelRun.sl.r_94 c M1 M2 M3 M4 M6 M7 f1 f2 f3 f4) 19) rfl (congrArg (step c M1 M2 M3 M4 M6 M7 f1 f2 f3 f4 · 19) (r_94 c M1 M2 M3 M4 M6 M7 f1 f2 f3 f4))
theorem r_103 : kernelRun.sl.r_103 c M1 M2 M3 M4 M6 M7 f1 f2 f3 f4 = accN c M1 M2 M3 M4 M6 M7 f1 f2 f3 f4 21 :=
  Eq.trans (b := step c M1 M2 M3 M4 M6 M7 f1 f2 f3 f4 (kernelRun.sl.r_96 c M1 M2 M3 M4 M6 M7 f1 f2 f3 f4) 20) rfl (congrArg (step c M1 M2 M3 M4 M6 M7 f1 f2 f3 f4 · 20) (r_96 c M1 M2 M3 M4 M6 M7 f1 f2 f3 f4))
theorem r_108 : kernelRun.sl.r_108 c M1 M2 M3 M4 M6 M7 f1 f2 f3 f4 = accN c M1 M2 M3 M4 M6 M7 f1 f2 f3 f4 22 :=
  Eq.trans (b := step c M1 M2 M3 M4 M6 M7 f1 f2 f3 f4 (kernelRun.sl.r_103 c M1 M2 M3 M4 M6 M7 f1 f2 f3 f4) 21) rfl (congrArg (step c M1 M2 M3 M4 M6 M7 f1 f2 f3 f4 · 21) (r_103 c M1 M2 M3 M4 M6 M7 f1 f2 f3 f4))
theorem r_111 : kernelRun.sl.r_111 c M1 M2 M3 M4 M6 M7 f1 f2 f3 f4 = accN c M1 M2 M3 M4 M6 M7 f1 f2 f3 f4 23 :=
  Eq.trans (b := step c M1 M2 M3 M4 M6 M7 f1 f2 f3 f4 (kernelRun.sl.r_108 c M1 M2 M3 M4 M6 M7 f1 f2 f3 f4) 22) rfl (congrArg (step c M1 M2 M3 M4 M6 M7 f1 f2 f3 f4 · 22) (r_108 c M1 M2 M3 M4 M6 M7 f1 f2 f3 f4))
theorem r_115 : kernelRun.sl.r_115 c M1 M2 M3 M4 M6 M7 f1 f2 f3 f4 = accN c M1 M2 M3 M4 M6 M7 f1 f2 f3 f4 24 :=
  Eq.trans (b := step c M1 M2 M3 M4 M6 M7 f1 f2 f3 f4 (kernelRun.sl.r_111 c M1 M2 M3 M4 M6 M7 f1 f2 f3 f4) 23) rfl (congrArg (step c M1 M2 M3 M4 M6 M7 f1 f2 f3 f4 · 23) (r_111 c M1 M2 M3 M4 M6 M7 f1 f2 f3 f4))
theorem r_119 : kernelRun.sl.r_119 c M1 M2 M3 M4 M6 M7 f1 f2 f3 f4 = accN c M1 M2 M3 M4 M6 M7 f1 f2 f3 f4 25 :=
  Eq.trans (b := step c M1 M2 M3 M4 M6 M7 f1 f2 f3 f4 (kernelRun.sl.r_115 c M1 M2 M3 M4 M6 M7 f1 f2 f3 f4) 24) rfl (congrArg (step c M1 M2 M3 M4 M6 M7 f1 f2 f3 f4 · 24) (r_115 c M1 M2 M3 M4 M6 M7 f1 f2 f3 f4))
theorem r_125 : kernelRun.sl.r_125 c M1 M2 M3 M4 M6 M7 f1 f2 f3 f4 = accN c M1 M2 M3 M4 M6 M7 f1 f2 f3 f4 26 :=
  Eq.trans (b := step c M1 M2 M3 M4 M6 M7 f1 f2 f3 f4 (kernelRun.sl.r_119 c M1 M2 M3 M4 M6 M7 f1 f2 f3 f4) 25) rfl (congrArg (step c M1 M2 M3 M4 M6 M7 f1 f2 f3 f4 · 25) (r_119 c M1 M2 M3 M4 M6 M7 f1 f2 f3 f4))
theorem r_128 : kernelRun.sl.r_128 c M1 M2 M3 M4 M6 M7 f1 f2 f3 f4 = accN c M1 M2 M3 M4 M6 M7 f1 f2 f3 f4 27 :=
  Eq.trans (b := step c M1 M2 M3 M4 M6 M7 f1 f2 f3 f4 (kernelRun.sl.r_125 c M1 M2 M3 M4 M6 M7 f1 f2 f3 f4) 26) rfl (congrArg (step c M1 M2 M3 M4 M6 M7 f1 f2 f3 f4 · 26) (r_125 c M1 M2 M3 M4 M6 M7 f1 f2 f3 f4))
theorem r_134 : kernelRun.sl.r_134 c M1 M2 M3 M4 M6 M7 f1 f2 f3 f4 = accN c M1 M2 M3 M4 M6 M7 f1 f2 f3 f4 28 :=
  Eq.trans (b := step c M1 M2 M3 M4 M6 M7 f1 f2 f3 f4 (kernelRun.sl.r_128 c M1 M2 M3 M4 M6 M7 f1 f2 f3 f4) 27) rfl (congrArg (step c M1 M2 M3 M4 M6 M7 f1 f2 f3 f4 · 27) (r_128 c M1 M2 M3 M4 M6 M7 f1 f2 f3 f4))
theorem r_138 : kernelRun.sl.r_138 c M1 M2 M3 M4 M6 M7 f1 f2 f3 f4 = accN c M1 M2 M3 M4 M6 M7 f1 f2 f3 f4 29 :=
  Eq.trans (b := step c M1 M2 M3 M4 M6 M7 f1 f2 f3 f4 (kernelRun.sl.r_134 c M1 M2 M3 M4 M6 M7 f1 f2 f3 f4) 28) rfl (congrArg (step c M1 M2 M3 M4 M6 M7 f1 f2 f3 f4 · 28) (r_134 c M1 M2 M3 M4 M6 M7 f1 f2 f3 f4))
theorem r_142 : kernelRun.sl.r_142 c M1 M2 M3 M4 M6 M7 f1 f2 f3 f4 = accN c M1 M2 M3 M4 M6 M7 f1 f2 f3 f4 30 :=
  Eq.trans (b := step c M1 M2 M3 M4 M6 M7 f1 f2 f3 f4 (kernelRun.sl.r_138 c M1 M2 M3 M4 M6 M7 f1 f2 f3 f4) 29) rfl (congrArg (step c M1 M2 M3 M4 M6 M7 f1 f2 f3 f4 · 29) (r_138 c M1 M2 M3 M4 M6 M7 f1 f2 f3 f4))
theorem r_147 : kernelRun.sl.r_147 c M1 M2 M3 M4 M6 M7 f1 f2 f3 f4 = accN c M1 M2 M3 M4 M6 M7 f1 f2 f3 f4 31 :=
  Eq.trans (b := step c M1 M2 M3 M4 M6 M7 f1 f2 f3 f4 (kernelRun.sl.r_142 c M1 M2 M3 M4 M6 M7 f1 f2 f3 f4) 30) rfl (congrArg (step c M1 M2 M3 M4 M6 M7 f1 f2 f3 f4 · 30) (r_142 c M1 M2 M3 M4 M6 M7 f1 f2 f3 f4))
theorem r_151 : kernelRun.sl.r_151 c M1 M2 M3 M4 M6 M7 f1 f2 f3 f4 = accN c M1 M2 M3 M4 M6 M7 f1 f2 f3 f4 32 :=
  Eq.trans (b := step c M1 M2 M3 M4 M6 M7 f1 f2 f3 f4 (kernelRun.sl.r_147 c M1 M2 M3 M4 M6 M7 f1 f2 f3 f4) 31) rfl (congrArg (step c M1 M2 M3 M4 M6 M7 f1 f2 f3 f4 · 31) (r_147 c M1 M2 M3 M4 M6 M7 f1 f2 f3 f4))
theorem r_158 : kernelRun.sl.r_158 c M1 M2 M3 M4 M6 M7 f1 f2 f3 f4 = accN c M1 M2 M3 M4 M6 M7 f1 f2 f3 f4 33 :=
  Eq.trans (b := step c M1 M2 M3 M4 M6 M7 f1 f2 f3 f4 (kernelRun.sl.r_151 c M1 M2 M3 M4 M6 M7 f1 f2 f3 f4) 32) rfl (congrArg (step c M1 M2 M3 M4 M6 M7 f1 f2 f3 f4 · 32) (r_151 c M1 M2 M3 M4 M6 M7 f1 f2 f3 f4))
theorem r_161 : kernelRun.sl.r_161 c M1 M2 M3 M4 M6 M7 f1 f2 f3 f4 = accN c M1 M2 M3 M4 M6 M7 f1 f2 f3 f4 34 :=
  Eq.trans (b := step c M1 M2 M3 M4 M6 M7 f1 f2 f3 f4 (kernelRun.sl.r_158 c M1 M2 M3 M4 M6 M7 f1 f2 f3 f4) 33) rfl (congrArg (step c M1 M2 M3 M4 M6 M7 f1 f2 f3 f4 · 33) (r_158 c M1 M2 M3 M4 M6 M7 f1 f2 f3 f4))
theorem r_166 : kernelRun.sl.r_166 c M1 M2 M3 M4 M6 M7 f1 f2 f3 f4 = accN c M1 M2 M3 M4 M6 M7 f1 f2 f3 f4 35 :=
  Eq.trans (b := step c M1 M2 M3 M4 M6 M7 f1 f2 f3 f4 (kernelRun.sl.r_161 c M1 M2 M3 M4 M6 M7 f1 f2 f3 f4) 34) rfl (congrArg (step c M1 M2 M3 M4 M6 M7 f1 f2 f3 f4 · 34) (r_161 c M1 M2 M3 M4 M6 M7 f1 f2 f3 f4))
theorem r_169 : kernelRun.sl.r_169 c M1 M2 M3 M4 M6 M7 f1 f2 f3 f4 = accN c M1 M2 M3 M4 M6 M7 f1 f2 f3 f4 36 :=
  Eq.trans (b := step c M1 M2 M3 M4 M6 M7 f1 f2 f3 f4 (kernelRun.sl.r_166 c M1 M2 M3 M4 M6 M7 f1 f2 f3 f4) 35) rfl (congrArg (step c M1 M2 M3 M4 M6 M7 f1 f2 f3 f4 · 35) (r_166 c M1 M2 M3 M4 M6 M7 f1 f2 f3 f4))
theorem r_175 : kernelRun.sl.r_175 c M1 M2 M3 M4 M6 M7 f1 f2 f3 f4 = accN c M1 M2 M3 M4 M6 M7 f1 f2 f3 f4 37 :=
  Eq.trans (b := step c M1 M2 M3 M4 M6 M7 f1 f2 f3 f4 (kernelRun.sl.r_169 c M1 M2 M3 M4 M6 M7 f1 f2 f3 f4) 36) rfl (congrArg (step c M1 M2 M3 M4 M6 M7 f1 f2 f3 f4 · 36) (r_169 c M1 M2 M3 M4 M6 M7 f1 f2 f3 f4))
theorem r_180 : kernelRun.sl.r_180 c M1 M2 M3 M4 M6 M7 f1 f2 f3 f4 = accN c M1 M2 M3 M4 M6 M7 f1 f2 f3 f4 38 :=
  Eq.trans (b := step c M1 M2 M3 M4 M6 M7 f1 f2 f3 f4 (kernelRun.sl.r_175 c M1 M2 M3 M4 M6 M7 f1 f2 f3 f4) 37) rfl (congrArg (step c M1 M2 M3 M4 M6 M7 f1 f2 f3 f4 · 37) (r_175 c M1 M2 M3 M4 M6 M7 f1 f2 f3 f4))
theorem r_183 : kernelRun.sl.r_183 c M1 M2 M3 M4 M6 M7 f1 f2 f3 f4 = accN c M1 M2 M3 M4 M6 M7 f1 f2 f3 f4 39 :=
  Eq.trans (b := step c M1 M2 M3 M4 M6 M7 f1 f2 f3 f4 (kernelRun.sl.r_180 c M1 M2 M3 M4 M6 M7 f1 f2 f3 f4) 38) rfl (congrArg (step c M1 M2 M3 M4 M6 M7 f1 f2 f3 f4 · 38) (r_180 c M1 M2 M3 M4 M6 M7 f1 f2 f3 f4))
theorem r_190 : kernelRun.sl.r_190 c M1 M2 M3 M4 M6 M7 f1 f2 f3 f4 = accN c M1 M2 M3 M4 M6 M7 f1 f2 f3 f4 40 :=
  Eq.trans (b := step c M1 M2 M3 M4 M6 M7 f1 f2 f3 f4 (kernelRun.sl.r_183 c M1 M2 M3 M4 M6 M7 f1 f2 f3 f4) 39) rfl (congrArg (step c M1 M2 M3 M4 M6 M7 f1 f2 f3 f4 · 39) (r_183 c M1 M2 M3 M4 M6 M7 f1 f2 f3 f4))
theorem r_194 : kernelRun.sl.r_194 c M1 M2 M3 M4 M6 M7 f1 f2 f3 f4 = accN c M1 M2 M3 M4 M6 M7 f1 f2 f3 f4 41 :=
  Eq.trans (b := step c M1 M2 M3 M4 M6 M7 f1 f2 f3 f4 (kernelRun.sl.r_190 c M1 M2 M3 M4 M6 M7 f1 f2 f3 f4) 40) rfl (congrArg (step c M1 M2 M3 M4 M6 M7 f1 f2 f3 f4 · 40) (r_190 c M1 M2 M3 M4 M6 M7 f1 f2 f3 f4))
theorem r_200 : kernelRun.sl.r_200 c M1 M2 M3 M4 M6 M7 f1 f2 f3 f4 = accN c M1 M2 M3 M4 M6 M7 f1 f2 f3 f4 42 :=
  Eq.trans (b := step c M1 M2 M3 M4 M6 M7 f1 f2 f3 f4 (kernelRun.sl.r_194 c M1 M2 M3 M4 M6 M7 f1 f2 f3 f4) 41) rfl (congrArg (step c M1 M2 M3 M4 M6 M7 f1 f2 f3 f4 · 41) (r_194 c M1 M2 M3 M4 M6 M7 f1 f2 f3 f4))
theorem r_202 : kernelRun.sl.r_202 c M1 M2 M3 M4 M6 M7 f1 f2 f3 f4 = accN c M1 M2 M3 M4 M6 M7 f1 f2 f3 f4 43 :=
  Eq.trans (b := step c M1 M2 M3 M4 M6 M7 f1 f2 f3 f4 (kernelRun.sl.r_200 c M1 M2 M3 M4 M6 M7 f1 f2 f3 f4) 42) rfl (congrArg (step c M1 M2 M3 M4 M6 M7 f1 f2 f3 f4 · 42) (r_200 c M1 M2 M3 M4 M6 M7 f1 f2 f3 f4))
theorem r_209 : kernelRun.sl.r_209 c M1 M2 M3 M4 M6 M7 f1 f2 f3 f4 = accN c M1 M2 M3 M4 M6 M7 f1 f2 f3 f4 44 :=
  Eq.trans (b := step c M1 M2 M3 M4 M6 M7 f1 f2 f3 f4 (kernelRun.sl.r_202 c M1 M2 M3 M4 M6 M7 f1 f2 f3 f4) 43) rfl (congrArg (step c M1 M2 M3 M4 M6 M7 f1 f2 f3 f4 · 43) (r_202 c M1 M2 M3 M4 M6 M7 f1 f2 f3 f4))
theorem r_214 : kernelRun.sl.r_214 c M1 M2 M3 M4 M6 M7 f1 f2 f3 f4 = accN c M1 M2 M3 M4 M6 M7 f1 f2 f3 f4 45 :=
  Eq.trans (b := step c M1 M2 M3 M4 M6 M7 f1 f2 f3 f4 (kernelRun.sl.r_209 c M1 M2 M3 M4 M6 M7 f1 f2 f3 f4) 44) rfl (congrArg (step c M1 M2 M3 M4 M6 M7 f1 f2 f3 f4 · 44) (r_209 c M1 M2 M3 M4 M6 M7 f1 f2 f3 f4))
theorem r_217 : kernelRun.sl.r_217 c M1 M2 M3 M4 M6 M7 f1 f2 f3 f4 = accN c M1 M2 M3 M4 M6 M7 f1 f2 f3 f4 46 :=
  Eq.trans (b := step c M1 M2 M3 M4 M6 M7 f1 f2 f3 f4 (kernelRun.sl.r_214 c M1 M2 M3 M4 M6 M7 f1 f2 f3 f4) 45) rfl (congrArg (step c M1 M2 M3 M4 M6 M7 f1 f2 f3 f4 · 45) (r_214 c M1 M2 M3 M4 M6 M7 f1 f2 f3 f4))
theorem r_223 : kernelRun.sl.r_223 c M1 M2 M3 M4 M6 M7 f1 f2 f3 f4 = accN c M1 M2 M3 M4 M6 M7 f1 f2 f3 f4 47 :=
  Eq.trans (b := step c M1 M2 M3 M4 M6 M7 f1 f2 f3 f4 (kernelRun.sl.r_217 c M1 M2 M3 M4 M6 M7 f1 f2 f3 f4) 46) rfl (congrArg (step c M1 M2 M3 M4 M6 M7 f1 f2 f3 f4 · 46) (r_217 c M1 M2 M3 M4 M6 M7 f1 f2 f3 f4))
theorem r_227 : kernelRun.sl.r_227 c M1 M2 M3 M4 M6 M7 f1 f2 f3 f4 = accN c M1 M2 M3 M4 M6 M7 f1 f2 f3 f4 48 :=
  Eq.trans (b := step c M1 M2 M3 M4 M6 M7 f1 f2 f3 f4 (kernelRun.sl.r_223 c M1 M2 M3 M4 M6 M7 f1 f2 f3 f4) 47) rfl (congrArg (step c M1 M2 M3 M4 M6 M7 f1 f2 f3 f4 · 47) (r_223 c M1 M2 M3 M4 M6 M7 f1 f2 f3 f4))
theorem r_234 : kernelRun.sl.r_234 c M1 M2 M3 M4 M6 M7 f1 f2 f3 f4 = accN c M1 M2 M3 M4 M6 M7 f1 f2 f3 f4 49 :=
  Eq.trans (b := step c M1 M2 M3 M4 M6 M7 f1 f2 f3 f4 (kernelRun.sl.r_227 c M1 M2 M3 M4 M6 M7 f1 f2 f3 f4) 48) rfl (congrArg (step c M1 M2 M3 M4 M6 M7 f1 f2 f3 f4 · 48) (r_227 c M1 M2 M3 M4 M6 M7 f1 f2 f3 f4))
theorem r_236 : kernelRun.sl.r_236 c M1 M2 M3 M4 M6 M7 f1 f2 f3 f4 = accN c M1 M2 M3 M4 M6 M7 f1 f2 f3 f4 50 :=
  Eq.trans (b := step c M1 M2 M3 M4 M6 M7 f1 f2 f3 f4 (kernelRun.sl.r_234 c M1 M2 M3 M4 M6 M7 f1 f2 f3 f4) 49) rfl (congrArg (step c M1 M2 M3 M4 M6 M7 f1 f2 f3 f4 · 49) (r_234 c M1 M2 M3 M4 M6 M7 f1 f2 f3 f4))
theorem r_243 : kernelRun.sl.r_243 c M1 M2 M3 M4 M6 M7 f1 f2 f3 f4 = accN c M1 M2 M3 M4 M6 M7 f1 f2 f3 f4 51 :=
  Eq.trans (b := step c M1 M2 M3 M4 M6 M7 f1 f2 f3 f4 (kernelRun.sl.r_236 c M1 M2 M3 M4 M6 M7 f1 f2 f3 f4) 50) rfl (congrArg (step c M1 M2 M3 M4 M6 M7 f1 f2 f3 f4 · 50) (r_236 c M1 M2 M3 M4 M6 M7 f1 f2 f3 f4))
theorem r_248 : kernelRun.sl.r_248 c M1 M2 M3 M4 M6 M7 f1 f2 f3 f4 = accN c M1 M2 M3 M4 M6 M7 f1 f2 f3 f4 52 :=
  Eq.trans (b := step c M1 M2 M3 M4 M6 M7 f1 f2 f3 f4 (kernelRun.sl.r_243 c M1 M2 M3 M4 M6 M7 f1 f2 f3 f4) 51) rfl (congrArg (step c M1 M2 M3 M4 M6 M7 f1 f2 f3 f4 · 51) (r_243 c M1 M2 M3 M4 M6 M7 f1 f2 f3 f4))
theorem r_251 : kernelRun.sl.r_251 c M1 M2 M3 M4 M6 M7 f1 f2 f3 f4 = accN c M1 M2 M3 M4 M6 M7 f1 f2 f3 f4 53 :=
  Eq.trans (b := step c M1 M2 M3 M4 M6 M7 f1 f2 f3 f4 (kernelRun.sl.r_248 c M1 M2 M3 M4 M6 M7 f1 f2 f3 f4) 52) rfl (congrArg (step c M1 M2 M3 M4 M6 M7 f1 f2 f3 f4 · 52) (r_248 c M1 M2 M3 M4 M6 M7 f1 f2 f3 f4))
theorem r_255 : kernelRun.sl.r_255 c M1 M2 M3 M4 M6 M7 f1 f2 f3 f4 = accN c M1 M2 M3 M4 M6 M7 f1 f2 f3 f4 54 :=
  Eq.trans (b := step c M1 M2 M3 M4 M6 M7 f1 f2 f3 f4 (kernelRun.sl.r_251 c M1 M2 M3 M4 M6 M7 f1 f2 f3 f4) 53) rfl (congrArg (step c M1 M2 M3 M4 M6 M7 f1 f2 f3 f4 · 53) (r_251 c M1 M2 M3 M4 M6 M7 f1 f2 f3 f4))
theorem r_259 : kernelRun.sl.r_259 c M1 M2 M3 M4 M6 M7 f1 f2 f3 f4 = accN c M1 M2 M3 M4 M6 M7 f1 f2 f3 f4 55 :=
  Eq.trans (b := step c M1 M2 M3 M4 M6 M7 f1 f2 f3 f4 (kernelRun.sl.r_255 c M1 M2 M3 M4 M6 M7 f1 f2 f3 f4) 54) rfl (congrArg (step c M1 M2 M3 M4 M6 M7 f1 f2 f3 f4 · 54) (r_255 c M1 M2 M3 M4 M6 M7 f1 f2 f3 f4))

end Cert.KernelIdeal.Chain

end
-- ==== Proof.Tile.lean ====
module

public import proofs.«01_k».proof.Proof.Chain
public import Idealize.ShloMosaic.Lib.Pointwise
public import Idealize.ShloMosaic.Lib.BitcastPair

/-! The step's operations read at an index. -/

@[expose] public section
noncomputable section
namespace Cert.KernelIdeal.Chain
open Cert.KernelIdeal Cert.KernelIdeal.Gen Cert.KernelIdeal.Body
open Idealize.ShloMosaic
open Idealize.ShloMosaic.TcCoe

/-- The low 4-bit field of a byte (`p = 0`), or its high one, as an extended real. -/
def nib (p : ℕ) (b : BitVec 8) : EReal := (((if p = 0 then b.toNat % 16 else b.toNat / 16 : ℕ) : ℝ) : EReal)

theorem sitofp_eq (n : ℕ) {w : ℕ} (x : BitVec w) (h : x.toInt = n) : FloatOps.sitofp (F := Ideal) .bf16 x = ((n : ℝ) : EReal) := by
  change (((x.toInt : ℤ) : ℝ) : EReal) = _
  rw [h]; norm_cast

theorem zero16_apply (z : Vec Ideal S1x1x2x512 .bf16) (r : Fin 16) (j : Fin 512) :
    zero16 (F := Ideal) z (ix3 0 r j) = z (ix4 0 0 ⟨r.val % 2, by omega⟩ j) := by
  pointwise [zero16, rows16]
  rcases Nat.mod_two_eq_zero_or_one r.val with h | h
  · simp [h]
  · simp [h]
theorem scale16_apply (z : Vec Ideal S1x2x512 .bf16) (r : Fin 16) (j : Fin 512) :
    scale16 (F := Ideal) z (ix3 0 r j) = z (ix3 0 ⟨r.val % 2, by omega⟩ j) := by
  pointwise [scale16, rows16]
  rcases Nat.mod_two_eq_zero_or_one r.val with h | h
  · simp [h]
  · simp [h]

theorem field_lo (b : BitVec 8) : (((b.setWidth 32 &&& 15#32) ||| ((b.setWidth 32).sshiftRight 4 <<< 16)).extractLsb' 0 16).toInt
    = ((b.toNat % 16 : ℕ) : ℤ) := by
  revert b; decide +kernel
theorem field_hi (b : BitVec 8) : (((b.setWidth 32 &&& 15#32) ||| ((b.setWidth 32).sshiftRight 4 <<< 16)).extractLsb' 16 16).toInt
    = ((b.toNat / 16 : ℕ) : ℤ) := by
  revert b; decide +kernel

theorem fields_apply (w : Vec Ideal S64x512 .i8) (r : Fin 128) (j : Fin 512) :
    fields (F := Ideal) w (ix2 r j) = nib (r.val % 2) (w (ix2 ⟨r.val / 2, by omega⟩ j)) := by
  unfold fields nib
  refine sitofp_eq _ _ ?_
  rw [bitcast_32_16]
  have hr : S128x512.row (ix2 r j) = r.val := rfl
  have hi : ∀ q hq, (bitcasts_S64x512_w32_S128x512_w16).srcIdx (ix2 r j) q hq = (ix2 (n0 := 64) (n1 := 512) ⟨q, hq 0 rfl⟩ j) := by
    intro q hq; funext a; fin_cases a <;> rfl
  rw [hi]
  simp only [hr]
  pointwise
  rcases Nat.mod_two_eq_zero_or_one r.val with h | h
  · rw [h]; exact field_lo _
  · rw [h]; exact field_hi _

theorem tile_apply (w z s) (r : Fin 128) (j : Fin 512) :
    tile (F := Ideal) w z s (ix2 r j) = (nib (r.val % 2) (w (ix2 ⟨r.val / 2, by omega⟩ j)) - z (ix4 0 0 ⟨r.val % 2, by omega⟩ j))
      * s (ix3 0 ⟨r.val % 2, by omega⟩ j) := by
  pointwise [tile]
  rw [fields_apply, zero16_apply, scale16_apply]
  simp only [Nat.mod_mod_of_dvd _ (by norm_num : 2 ∣ 16)]

theorem addDot_apply (acc x w) (r : Fin 64) (j : Fin 512) :
    addDot (F := Ideal) acc x w (ix2 r j) = acc (ix2 r j) + ∑ k : Fin 256, x (ix2 r k) * w (ix2 k j) := by
  pointwise [addDot]
theorem pair_apply (a b) (r : Fin 256) (j : Fin 512) :
    pair (F := Ideal) a b (ix2 r j) = if h : r.val < 128 then a (ix2 ⟨r.val, h⟩ j) else b (ix2 ⟨r.val - 128, by omega⟩ j) := by
  pointwise [pair]
theorem pay9_apply (r : Fin 64) (j : Fin 512) : k0_pay9 (F := Ideal) (ix2 r j) = 0 := by
  pointwise [k0_pay9]
theorem pay2_apply (v : Vec Ideal S1024x110 .bf16) (g : Fin 110) (p : Fin 2) (j : Fin 512) :
    k0_pay2 (F := Ideal) v (ix3 g p j) = v (ix2 ⟨2 * j.val + p.val, by omega⟩ g) := by
  pointwise [k0_pay2]
  fin_cases p <;> simp
theorem nib_lo (b : BitVec 8) : FloatOps.sitofp (F := Ideal) .bf16 (IntOp.andi b 15#8) = nib 0 b :=
  sitofp_eq _ _ (by revert b; decide +kernel)
theorem nib_hi (b : BitVec 8) :
    FloatOps.sitofp (F := Ideal) .bf16 (BitVec.setWidth 8 (IntOp.shrsi ArithUnit.vector (BitVec.setWidth 32 b) 4#32)) = nib 1 b :=
  sitofp_eq _ _ (by revert b; decide +kernel)
theorem zlo_apply (v : Vec Ideal S1024x55 .i8) (t : Fin 55) (p : Fin 2) (j : Fin 512) :
    k0_pay7 (F := Ideal) (k0_pay5 v) (k0_pay6 v) (ix4 0 t p j) = nib 0 (v (ix2 ⟨2 * j.val + p.val, by omega⟩ t)) := by
  pointwise [k0_pay7, k0_pay5, k0_pay6, k0_pay3]
  fin_cases p <;> exact nib_lo _
theorem zhi_apply (v : Vec Ideal S1024x55 .i8) (t : Fin 55) (p : Fin 2) (j : Fin 512) :
    k0_pay8 (F := Ideal) (k0_pay4 v) (ix4 0 t p j) = nib 1 (v (ix2 ⟨2 * j.val + p.val, by omega⟩ t)) := by
  pointwise [k0_pay8, k0_pay4]
  fin_cases p <;> exact nib_hi _
end Cert.KernelIdeal.Chain
end
-- ==== Proof.Reads.lean ====
module

public import proofs.«01_k».proof.Proof.Tile
public import Idealize.ShloMosaic.Lib.Pipeline.ValueKit
public import Idealize.ShloMosaic.Lib.Pipeline.ReadBack

/-! What a step reads of its operands' blocks, and the accumulator as one sum over the products' positions. -/

@[expose] public section
noncomputable section
namespace Cert.KernelIdeal.Chain
open Cert.KernelIdeal Cert.KernelIdeal.Gen Cert.KernelIdeal.Body
open Idealize.ShloMosaic
open Idealize.ShloMosaic.TcCoe

variable (c : Dev nD)
    (M1 : Memref sig .tc .vmem S64x14080 .bf16) (M2 : Memref sig .tc .vmem S7040x512 .i8)
    (M3 : Memref sig .tc .vmem S1024x110 .bf16) (M4 : Memref sig .tc .vmem S1024x55 .i8)
    (M6 : Memref sig .tc .vmem S110x2x512 .bf16) (M7 : Memref sig .tc .vmem S2x55x2x512 .bf16)
    (f1 : Bf (F := Ideal) c M1) (f2 : Bf (F := Ideal) c M2) (f3 : Bf (F := Ideal) c M3) (f4 : Bf (F := Ideal) c M4)
    (x1 : Vec Ideal S64x14080 .bf16) (x2 : Vec Ideal S7040x512 .i8) (x3 : Vec Ideal S1024x110 .bf16) (x4 : Vec Ideal S1024x55 .i8)
    (h1 : M1.view.read (Elt Ideal) f1 = x1) (h2 : M2.view.read (Elt Ideal) f2 = x2)
    (h3 : M3.view.read (Elt Ideal) f3 = x3) (h4 : M4.view.read (Elt Ideal) f4 = x4)

include h1 in
theorem xAt_apply (t : Fin 55) (r : Fin 64) (k : Fin 256) :
    xAt (F := Ideal) c M1 f1 t (ix2 r k) = x1 (ix2 r ⟨256 * t.val + k.val, by omega⟩) := by
  unfold xAt
  rw [View.readAt_apply, h1]
  refine congrArg x1 ?_
  funext a; apply Fin.ext
  fin_cases a
  · show 0 + 1 * r.val = r.val; omega
  · show 256 * t.val + 1 * k.val = 256 * t.val + k.val; omega

include h2 in
theorem wAt_apply (g : Fin 110) (r : Fin 64) (j : Fin 512) :
    wAt (F := Ideal) c M2 f2 g (ix2 r j) = x2 (ix2 ⟨64 * g.val + r.val, by omega⟩ j) := by
  unfold wAt
  rw [View.readAt_apply, h2]
  refine congrArg x2 ?_
  funext a; apply Fin.ext
  fin_cases a
  · show 64 * g.val + 1 * r.val = 64 * g.val + r.val; omega
  · show 0 + 1 * j.val = j.val; omega

include h3 in
theorem s_whole : View.readAt (Elt Ideal) M3.view (Rect.unit ![0, 0] S1024x110.size inb_S1024x110_S1024x110_0_0).toLoadRect f3 = x3 := by
  funext i
  rw [View.readAt_apply, h3]
  refine congrArg x3 ?_
  funext a; apply Fin.ext
  fin_cases a
  · show 0 + 1 * (i 0).val = (i 0).val; omega
  · show 0 + 1 * (i 1).val = (i 1).val; omega

include h4 in
theorem z_whole : View.readAt (Elt Ideal) M4.view (Rect.unit ![0, 0] S1024x55.size inb_S1024x55_S1024x55_0_0).toLoadRect f4 = x4 := by
  funext i
  rw [View.readAt_apply, h4]
  refine congrArg x4 ?_
  funext a; apply Fin.ext
  fin_cases a
  · show 0 + 1 * (i 0).val = (i 0).val; omega
  · show 0 + 1 * (i 1).val = (i 1).val; omega

include h3 in
theorem sAt_apply (g : Fin 110) (p : Fin 2) (j : Fin 512) :
    sAt (F := Ideal) c M3 M6 f3 g (ix3 0 p j) = x3 (ix2 ⟨2 * j.val + p.val, by omega⟩ g) := by
  unfold sAt View.readCov
  rw [View.readAt_apply]
  unfold kernelRun.sl.H6_1
  rw [View.read_writes_cons_hit_of_coords _ _ _ _ _ (ix3 (n0 := 110) (n1 := 2) (n2 := 512) g p j)]
  · rw [s_whole c M3 f3 x3 h3]; exact pay2_apply x3 g p j
  · intro a
    fin_cases a
    · show g.val + 1 * 0 = 0 + 1 * g.val; omega
    · show 0 + 1 * p.val = 0 + 1 * p.val; rfl
    · show 0 + 1 * j.val = 0 + 1 * j.val; rfl

include h4 in
theorem zAt_apply (h : Fin 2) (t : Fin 55) (p : Fin 2) (j : Fin 512) :
    zAt (F := Ideal) c M4 M7 f4 h t (ix4 0 0 p j) = nib h.val (x4 (ix2 ⟨2 * j.val + p.val, by omega⟩ t)) := by
  unfold zAt View.readCov
  rw [View.readAt_apply]
  unfold kernelRun.sl.H7_2 kernelRun.sl.r kernelRun.sl.r_1 kernelRun.sl.r_2
  rw [z_whole c M4 f4 x4 h4]
  have hh : h = 1 ∨ h = 0 := by fin_cases h <;> simp
  rcases hh with rfl | rfl
  · rw [View.read_writes_cons_hit_of_coords _ _ _ _ _ (ix4 (n0 := 1) (n1 := 55) (n2 := 2) (n3 := 512) 0 t p j)]
    · exact zhi_apply x4 t p j
    · intro a
      fin_cases a
      · rfl
      · show t.val + 1 * 0 = 0 + 1 * t.val; omega
      · show 0 + 1 * p.val = 0 + 1 * p.val; rfl
      · show 0 + 1 * j.val = 0 + 1 * j.val; rfl
  · rw [View.read_writes_cons_miss_of_axis _ _ _ _ _ 0 1 1 rfl rfl rfl (.inl (by show 0 + 1 * 0 < 1; omega))]
    rw [View.read_writes_cons_hit_of_coords _ _ _ _ _ (ix4 (n0 := 1) (n1 := 55) (n2 := 2) (n3 := 512) 0 t p j)]
    · exact zlo_apply x4 t p j
    · intro a
      fin_cases a
      · rfl
      · show t.val + 1 * 0 = 0 + 1 * t.val; omega
      · show 0 + 1 * p.val = 0 + 1 * p.val; rfl
      · show 0 + 1 * j.val = 0 + 1 * j.val; rfl

/-- The dequantized operand at position `K` of column `j`: row `K / 2` of the packed block, of its low field where `K` is
    even and its high one where odd, with the scale and zero point of group `K / 128`. -/
def deq (x2 : Vec Ideal S7040x512 .i8) (x3 : Vec Ideal S1024x110 .bf16) (x4 : Vec Ideal S1024x55 .i8) (K : Fin 14080) (j : Fin 512) : EReal :=
  (nib (K.val % 2) (x2 (ix2 ⟨K.val / 2, by omega⟩ j)) - nib (K.val / 128 % 2) (x4 (ix2 ⟨2 * j.val + K.val % 2, by omega⟩ ⟨K.val / 256, by omega⟩)))
    * x3 (ix2 ⟨2 * j.val + K.val % 2, by omega⟩ ⟨K.val / 128, by omega⟩)

include h2 h3 h4 in
theorem tileAt_apply (t : Fin 55) (h : Fin 2) (r : Fin 128) (j : Fin 512) :
    tileAt (F := Ideal) c M2 M3 M4 M6 M7 f2 f3 f4 t h (ix2 r j) = deq x2 x3 x4 ⟨256 * t.val + 128 * h.val + r.val, by omega⟩ j := by
  unfold tileAt
  rw [tile_apply, wAt_apply c M2 f2 x2 h2, zAt_apply c M4 M7 f4 x4 h4, sAt_apply c M3 M6 f3 x3 h3]
  unfold deq grp
  have e1 : (256 * t.val + 128 * h.val + r.val) % 2 = r.val % 2 := by omega
  have e2 : (256 * t.val + 128 * h.val + r.val) / 2 = 64 * (2 * t.val + h.val) + r.val / 2 := by omega
  have e3 : (256 * t.val + 128 * h.val + r.val) / 128 = 2 * t.val + h.val := by omega
  have e4 : (256 * t.val + 128 * h.val + r.val) / 256 = t.val := by omega
  have e5 : (2 * t.val + h.val) % 2 = h.val := by omega
  simp only [e1, e2, e3, e4, e5]

/-- Position `K`'s product, of row `r` and column `j`; zero past the last. -/
def term (x1 : Vec Ideal S64x14080 .bf16) (x2 : Vec Ideal S7040x512 .i8) (x3 : Vec Ideal S1024x110 .bf16) (x4 : Vec Ideal S1024x55 .i8)
    (r : Fin 64) (j : Fin 512) (K : ℕ) : EReal :=
  if h : K < 14080 then x1 (ix2 r ⟨K, h⟩) * deq x2 x3 x4 ⟨K, h⟩ j else 0

include h1 h2 h3 h4 in
theorem step_apply (acc) (t : Fin 55) (r : Fin 64) (j : Fin 512) :
    step (F := Ideal) c M1 M2 M3 M4 M6 M7 f1 f2 f3 f4 acc t (ix2 r j)
      = acc (ix2 r j) + ∑ k ∈ Finset.range 256, term x1 x2 x3 x4 r j (256 * t.val + k) := by
  unfold step
  rw [addDot_apply, Finset.sum_range]
  refine congrArg (acc (ix2 r j) + ·) (Finset.sum_congr rfl fun k _ => ?_)
  have hK : 256 * t.val + k.val < 14080 := by omega
  rw [xAt_apply c M1 f1 x1 h1, pair_apply, term, dif_pos hK]
  refine congrArg (x1 _ * ·) ?_
  by_cases h : k.val < 128
  · rw [dif_pos h, tileAt_apply c M2 M3 M4 M6 M7 f2 f3 f4 x2 x3 x4 h2 h3 h4]
    congr 2
  · rw [dif_neg h, tileAt_apply c M2 M3 M4 M6 M7 f2 f3 f4 x2 x3 x4 h2 h3 h4]
    refine congrArg (deq x2 x3 x4 · j) (Fin.ext ?_)
    show 256 * t.val + 128 * 1 + (k.val - 128) = 256 * t.val + k.val
    omega

include h1 h2 h3 h4 in
theorem accN_apply (n : ℕ) (hn : n ≤ 55) (r : Fin 64) (j : Fin 512) :
    accN (F := Ideal) c M1 M2 M3 M4 M6 M7 f1 f2 f3 f4 n (ix2 r j) = ∑ K ∈ Finset.range (256 * n), term x1 x2 x3 x4 r j K := by
  induction n with
  | zero => unfold accN; rw [pay9_apply]; simp
  | succ n ih =>
    unfold accN
    rw [step_apply c M1 M2 M3 M4 M6 M7 f1 f2 f3 f4 x1 x2 x3 x4 h1 h2 h3 h4, ih (by omega), Nat.mul_succ, Finset.sum_range_add]
    have : (Fin.ofNat 55 n).val = n := Nat.mod_eq_of_lt (by omega)
    rw [this]
end Cert.KernelIdeal.Chain
end
-- ==== Proof.Out.lean ====
module

public import proofs.«01_k».proof.Proof.Chain
public import Idealize.ShloMosaic.Lib.Pointwise

/-! The body's four stores of the accumulator, and what each holds at an index. -/

@[expose] public section
noncomputable section
namespace Cert.KernelIdeal.Chain
open Cert.KernelIdeal Cert.KernelIdeal.Gen Cert.KernelIdeal.Body
open Idealize.ShloMosaic
open Idealize.ShloMosaic.TcCoe
variable {F : FTy → Type} [FloatOps F]
/-- A lane's parity is even. -/
def evenLane : IVec S16x128 1 := k0_pay371 2#32 (k0_pay369 kernelRun.sl.v3192) k0_pay370
/-- Rows of two operands' lanes gathered and alternated. -/
def alt (ix : IVec S16x128 32) (e o : FVec F S32x128 .bf16) : FVec F S32x128 .bf16 :=
  interleaveRows S32x128
    (select evenLane (k0_pay358 (rowsOfParity 0 S16x128 e bitcasts_S32x128_w16_S16x128_w32) ix)
      (k0_pay358 (rowsOfParity 0 S16x128 o bitcasts_S32x128_w16_S16x128_w32) ix))
    (select evenLane (k0_pay358 (rowsOfParity 1 S16x128 e bitcasts_S32x128_w16_S16x128_w32) ix)
      (k0_pay358 (rowsOfParity 1 S16x128 o bitcasts_S32x128_w16_S16x128_w32) ix)) bitcasts_S32x128_w16_S16x128_w32
def seg (e o : FVec F S32x128 .bf16) : FVec F S32x256 .bf16 :=
  concatenate S32x256 1 [⟨S32x128, alt k0_pay355 e o⟩, ⟨S32x128, alt (k0_pay363 kernelRun.sl.v3192) e o⟩] concatenates_S32x128_S32x128_S32x256_d1

variable (c : Dev nD)
    (M1 : Memref sig .tc .vmem S64x14080 .bf16) (M2 : Memref sig .tc .vmem S7040x512 .i8)
    (M3 : Memref sig .tc .vmem S1024x110 .bf16) (M4 : Memref sig .tc .vmem S1024x55 .i8)
    (M6 : Memref sig .tc .vmem S110x2x512 .bf16) (M7 : Memref sig .tc .vmem S2x55x2x512 .bf16)
    (f1 : Bf (F := F) c M1) (f2 : Bf (F := F) c M2) (f3 : Bf (F := F) c M3) (f4 : Bf (F := F) c M4)

/-- The four column blocks of the accumulator, its upper rows and its lower ones alternated by lanes. -/
def outs (acc : FVec F S64x512 .f32) : List (View.Piece (Elt F) S32x1024 .bf16) :=
  [⟨Rect.unit ![0, 768] S32x256.size inb_S32x1024_S32x256_0_768, seg (k0_pay349 acc) (k0_pay352 acc)⟩,
   ⟨Rect.unit ![0, 512] S32x256.size inb_S32x1024_S32x256_0_512, seg (k0_pay319 acc) (k0_pay322 acc)⟩,
   ⟨Rect.unit ![0, 256] S32x256.size inb_S32x1024_S32x256_0_256, seg (k0_pay303 acc) (k0_pay306 acc)⟩,
   ⟨Rect.unit ![0, 0] S32x256.size inb_S32x1024_S32x256_0_0,
     seg (truncf .bf16 (extractStridedSlice S32x128 ![0, 0] (extractStridedSlice S64x128 ![0, 0] acc slices_S64x512_o0_0_S64x128) slices_S64x128_o0_0_S32x128) bitsLt_bf16_f32)
       (truncf .bf16 (extractStridedSlice S32x128 ![32, 0] (extractStridedSlice S64x128 ![0, 0] acc slices_S64x512_o0_0_S64x128) slices_S64x128_o32_0_S32x128) bitsLt_bf16_f32)⟩]

theorem H5_4_eq : kernelRun.sl.H5_4 c M1 M2 M3 M4 M6 M7 f1 f2 f3 f4 = outs (accN c M1 M2 M3 M4 M6 M7 f1 f2 f3 f4 55) := by
  rw [← r_259]; rfl

theorem evenLane_apply (r : Fin 16) (l : Fin 128) : evenLane (ix2 r l) = if l.val % 2 = 0 then 1#1 else 0#1 := by
  pointwise [evenLane, k0_pay371, k0_pay369, k0_pay370, kernelRun.sl.v3192]
  revert l; decide +kernel
theorem ix0 (r : Fin 16) (l : Fin 128) : k0_pay355 (ix2 r l) = BitVec.ofNat 32 (l.val / 2) := by
  pointwise [k0_pay355]
  revert l; decide +kernel
theorem ix64 (r : Fin 16) (l : Fin 128) : k0_pay363 kernelRun.sl.v3192 (ix2 r l) = BitVec.ofNat 32 (l.val / 2 + 64) := by
  pointwise [k0_pay363, kernelRun.sl.v3192]
  revert l; decide +kernel
theorem wrap (n : Fin 128) : (Scalar.select (IntOp.cmpi CmpIPredicate.slt (BitVec.ofNat 32 n.val) 0#32)
    (IntOp.addi (BitVec.ofNat 32 n.val) 128#32) (BitVec.ofNat 32 n.val)).toNat % 128 = n.val := by
  revert n; decide +kernel
theorem gat_apply (ix : IVec S16x128 32) (v : FVec Ideal S16x128 .bf16) (r : Fin 16) (l n : Fin 128)
    (h : ix (ix2 r l) = BitVec.ofNat 32 n.val) : k0_pay358 (F := Ideal) v ix (ix2 r l) = v (ix2 r n) := by
  pointwise [k0_pay358]
  refine congrArg (fun x => v (ix2 r x)) (Fin.ext ?_)
  simp only [h]
  exact wrap n
theorem alt_apply (ix : IVec S16x128 32) (e o : FVec Ideal S32x128 .bf16) (r : Fin 32) (l n : Fin 128)
    (h : ∀ r, ix (ix2 r l) = BitVec.ofNat 32 n.val) :
    alt (F := Ideal) ix e o (ix2 r l) = if l.val % 2 = 0 then e (ix2 r n) else o (ix2 r n) := by
  have hg := fun v r' => gat_apply ix v r' l n (h r')
  pointwise [alt]
  simp only [hg, evenLane_apply]
  pointwise
  have e0 : r.val % 2 = 0 → (⟨2 * (r.val / 2), by omega⟩ : Fin 32) = r := fun h => Fin.ext (by simp only; omega)
  have e1 : ¬ r.val % 2 = 0 → (⟨2 * (r.val / 2) + 1, by omega⟩ : Fin 32) = r := fun h => Fin.ext (by simp only; omega)
  by_cases hr : r.val % 2 = 0 <;> by_cases hl : l.val % 2 = 0
  · simp [hr, hl, e0 hr, Scalar.select]
  · simp [hr, hl, e0 hr, Scalar.select]
  · simp [hr, hl, e1 hr, Scalar.select]
  · simp [hr, hl, e1 hr, Scalar.select]
theorem seg_apply (e o : FVec Ideal S32x128 .bf16) (r : Fin 32) (j : Fin 256) :
    seg (F := Ideal) e o (ix2 r j) = if j.val % 2 = 0 then e (ix2 r ⟨j.val / 2, by omega⟩) else o (ix2 r ⟨j.val / 2, by omega⟩) := by
  pointwise [seg]
  by_cases h : j.val < 128
  · rw [dif_pos h, alt_apply _ _ _ _ _ ⟨j.val / 2, by omega⟩ (fun r => ix0 r _)]
  · rw [dif_neg h, alt_apply _ _ _ _ _ ⟨j.val / 2, by omega⟩ (fun r => (ix64 r _).trans (congrArg _ (by simp only; omega)))]
    have : (j.val - 128) % 2 = j.val % 2 := by omega
    simp only [this]
end Cert.KernelIdeal.Chain
end
-- ==== Proof.Stores.lean ====
module

public import proofs.«01_k».proof.Proof.Out
public import Idealize.ShloMosaic.Lib.Pipeline.ValueKit

/-! The result's block after the four stores: at column `2 j + p` the accumulator's column `j`, of its upper rows where
`p = 0` and of its lower rows where `p = 1`. -/

@[expose] public section
noncomputable section
namespace Cert.KernelIdeal.Chain
open Cert.KernelIdeal Cert.KernelIdeal.Gen Cert.KernelIdeal.Body
open Idealize.ShloMosaic
open Idealize.ShloMosaic.TcCoe

/-- What the block holds, of the accumulator. -/
def outG (acc : FVec Ideal S64x512 .f32) : Vec Ideal S32x1024 .bf16 := fun y =>
  if (y 1).val % 2 = 0 then acc (ix2 (n0 := 64) (n1 := 512) ⟨(y 0).val, by have := (y 0).isLt; change _ < 32 at this; omega⟩ ⟨(y 1).val / 2, by have := (y 1).isLt; change _ < 1024 at this; omega⟩)
  else acc (ix2 (n0 := 64) (n1 := 512) ⟨32 + (y 0).val, by have := (y 0).isLt; change _ < 32 at this; omega⟩ ⟨(y 1).val / 2, by have := (y 1).isLt; change _ < 1024 at this; omega⟩)

theorem seg_outG (acc : FVec Ideal S64x512 .f32) (e o : FVec Ideal S32x128 .bf16) (q : Fin 4)
    (he : ∀ (r : Fin 32) (l : Fin 128), e (ix2 r l) = acc (ix2 ⟨r.val, by omega⟩ ⟨128 * q.val + l.val, by omega⟩))
    (ho : ∀ (r : Fin 32) (l : Fin 128), o (ix2 r l) = acc (ix2 ⟨32 + r.val, by omega⟩ ⟨128 * q.val + l.val, by omega⟩))
    (x : S32x256.Idx) (y : S32x1024.Idx) (h0 : (y 0).val = (x 0).val) (h1 : (y 1).val = 256 * q.val + (x 1).val) :
    seg (F := Ideal) e o x = outG acc y := by
  have hx1 : (x 1).val < 256 := (x 1).isLt
  have hx0 : (x 0).val < 32 := (x 0).isLt
  have hs : seg (F := Ideal) e o x = seg (F := Ideal) e o (ix2 (n0 := 32) (n1 := 256) ⟨(x 0).val, hx0⟩ ⟨(x 1).val, hx1⟩) :=
    congrArg _ (eq_ix2 (n0 := 32) (n1 := 256) x)
  rw [hs, seg_apply, he, ho]
  unfold outG
  have e1 : (y 1).val % 2 = (x 1).val % 2 := by omega
  rw [e1]
  have e2 : (y 1).val / 2 = 128 * q.val + (x 1).val / 2 := by omega
  simp only [h0, e2]

theorem outs_outG (acc : FVec Ideal S64x512 .f32) : ∀ p ∈ outs acc, ∀ x : p.1.shape.Idx, p.2 x = outG acc (p.1.emb x) := by
  intro p hp
  simp only [outs, List.mem_cons, List.not_mem_nil, or_false] at hp
  rcases hp with rfl | rfl | rfl | rfl <;> intro x
  · refine seg_outG acc _ _ 3 (fun r l => ?_) (fun r l => ?_) x _ (by rw [Rect.emb_apply]; show 0 + 1 * _ = _; omega) (by rw [Rect.emb_apply]; show 768 + 1 * _ = 256 * 3 + _; omega)
    · pointwise [k0_pay349, k0_pay348]
    · pointwise [k0_pay352, k0_pay348]
  · refine seg_outG acc _ _ 2 (fun r l => ?_) (fun r l => ?_) x _ (by rw [Rect.emb_apply]; show 0 + 1 * _ = _; omega) (by rw [Rect.emb_apply]; show 512 + 1 * _ = 256 * 2 + _; omega)
    · pointwise [k0_pay319, k0_pay318]
    · pointwise [k0_pay322, k0_pay318]
  · refine seg_outG acc _ _ 1 (fun r l => ?_) (fun r l => ?_) x _ (by rw [Rect.emb_apply]; show 0 + 1 * _ = _; omega) (by rw [Rect.emb_apply]; show 256 + 1 * _ = 256 * 1 + _; omega)
    · pointwise [k0_pay303, k0_pay302]
    · pointwise [k0_pay306, k0_pay302]
  · refine seg_outG acc _ _ 0 (fun r l => ?_) (fun r l => ?_) x _ (by rw [Rect.emb_apply]; show 0 + 1 * _ = _; omega) (by rw [Rect.emb_apply]; show 0 + 1 * _ = 256 * 0 + _; omega)
    · pointwise
    · pointwise

theorem outs_read {κ sp} (v : View sig κ sp S32x1024 .bf16) (f : v.ty.Contents (Elt Ideal)) (acc : FVec Ideal S64x512 .f32) :
    v.read (Elt Ideal) (v.writes (Elt Ideal) f (outs acc)) = outG acc :=
  funext fun y => View.read_writes_apply_of_pieces v f (outG acc) (outs acc) (outs_outG acc) y
    (View.cover_of_tiled (outs acc) S32x256.size rfl y)
end Cert.KernelIdeal.Chain
end
-- ==== Proof.Host.lean ====
module

public import proofs.«01_k».proof.Proof.Gen.KernelIdeal.Frame
public import proofs.«01_k».proof.Proof.Tile
public import Idealize.ShloMosaic.Lib.Pointwise

/-! The first operand as the host operations lay it out: in its upper rows each element followed by a zero, in its lower
rows each element preceded by one. -/

@[expose] public section
noncomputable section
namespace Cert.KernelIdeal.Host
open Cert.KernelIdeal Cert.KernelIdeal.Gen
open Idealize.ShloMosaic
open Idealize.ShloMosaic.TcCoe

variable {F : FTy → Type} [FloatOps F]

def zeros : Vec F S32x7040 .bf16 := broadcastInDim S32x7040 ![] bcast_S_S32x7040 (constant S_ .bf16 0x0000#16)

def weave (a b : Vec F S32x7040 .bf16) : Vec F S32x14080 .bf16 :=
  shapeCast S32x14080 (concatenate S32x7040x2 2 [⟨S32x7040x1, broadcastInDim S32x7040x1 ![0, 1] bcast_S32x7040_S32x7040x1_0_1 a⟩,
    ⟨S32x7040x1, broadcastInDim S32x7040x1 ![0, 1] bcast_S32x7040_S32x7040x1_0_1 b⟩] concatenates_S32x7040x1_S32x7040x1_S32x7040x2_d2)
    shapeCasts_S32x7040x2_S32x14080

def xmat (x : Vec F S32x1x7040 .bf16) : Vec F S64x14080 .bf16 :=
  concatenate S64x14080 0 [⟨S32x14080, weave (shapeCast S32x7040 x shapeCasts_S32x1x7040_S32x7040) zeros⟩,
    ⟨S32x14080, weave zeros (shapeCast S32x7040 x shapeCasts_S32x1x7040_S32x7040)⟩] concatenates_S32x14080_S32x14080_S64x14080_d0

theorem V_x (m : (ℓ : Loc nD τ sig) → Buf (Elt F) ℓ) (c : Dev nD) : V m c main_v10 = xmat (m ((c : Thread nD τ).loc main_arg0)) := by
  unfold V
  after_results_simp <;> rfl

theorem weave_apply (a b : Vec Ideal S32x7040 .bf16) (r : Fin 32) (K : Fin 14080) :
    weave (F := Ideal) a b (ix2 r K) = if K.val % 2 = 0 then a (ix2 r ⟨K.val / 2, by omega⟩) else b (ix2 r ⟨K.val / 2, by omega⟩) := by
  pointwise [weave]
  rcases Nat.mod_two_eq_zero_or_one K.val with h | h <;> simp [h]
theorem zeros_apply (r : Fin 32) (d : Fin 7040) : zeros (F := Ideal) (ix2 r d) = 0 := by
  pointwise [zeros]

theorem xmat_upper (x : Vec Ideal S32x1x7040 .bf16) (r : Fin 32) (K : Fin 14080) :
    xmat (F := Ideal) x (ix2 ⟨r.val, by omega⟩ K) = if K.val % 2 = 0 then x (ix3 r 0 ⟨K.val / 2, by omega⟩) else 0 := by
  have : xmat (F := Ideal) x (ix2 ⟨r.val, by omega⟩ K) = weave (F := Ideal) (shapeCast S32x7040 x shapeCasts_S32x1x7040_S32x7040) zeros (ix2 r K) := by
    pointwise [xmat]
  rw [this, weave_apply, zeros_apply]
  congr 1
  pointwise
theorem xmat_lower (x : Vec Ideal S32x1x7040 .bf16) (r : Fin 32) (K : Fin 14080) :
    xmat (F := Ideal) x (ix2 ⟨32 + r.val, by omega⟩ K) = if K.val % 2 = 0 then 0 else x (ix3 r 0 ⟨K.val / 2, by omega⟩) := by
  have : xmat (F := Ideal) x (ix2 ⟨32 + r.val, by omega⟩ K) = weave (F := Ideal) zeros (shapeCast S32x7040 x shapeCasts_S32x1x7040_S32x7040) (ix2 r K) := by
    pointwise [xmat]
  rw [this, weave_apply, zeros_apply]
  congr 1
  pointwise
end Cert.KernelIdeal.Host
end
-- ==== Proof.Ref.lean ====
module

public import proofs.«01_k».proof.Proof.Tile
public import proofs.«01_k».proof.Proof.Gen.ReferenceIdeal.Run
public import Idealize.ShloMosaic.Lib.Pointwise

/-! The reference's result at an index: of row `r` and column `2 J + p` the sum, over the packed weight's rows, of the
row's element by the dequantized weight there. -/

@[expose] public section
noncomputable section
namespace Cert.ReferenceIdeal.Point
open Cert.ReferenceIdeal Cert.ReferenceIdeal.Gen
open Idealize.ShloMosaic
open Idealize.ShloMosaic.TcCoe
open Cert.KernelIdeal.Chain (nib sitofp_eq)

variable {F : FTy → Type} [FloatOps F]

/-- The dequantized weight at packed row `d` and column `2 J + p`. -/
def wgt (w : Vec Ideal S7040x14912 .i8) (s : Vec Ideal S29824x110 .bf16) (z : Vec Ideal S29824x55 .i8)
    (J : Fin 14912) (p : Fin 2) (d : Fin 7040) : EReal :=
  (nib p.val (w (ix2 d J)) - nib (d.val / 64 % 2) (z (ix2 ⟨2 * J.val + p.val, by omega⟩ ⟨d.val / 128, by omega⟩)))
    * s (ix2 ⟨2 * J.val + p.val, by omega⟩ ⟨d.val / 64, by omega⟩)

/-- The product's element at row `r` and column `2 J + p`. -/
def val (x : Vec Ideal S32x1x7040 .bf16) (w : Vec Ideal S7040x14912 .i8) (s : Vec Ideal S29824x110 .bf16) (z : Vec Ideal S29824x55 .i8)
    (r : Fin 32) (J : Fin 14912) (p : Fin 2) : EReal :=
  ∑ d : Fin 7040, x (ix3 r 0 d) * wgt w s z J p d

theorem lo_eq (b : BitVec 8) : FloatOps.sitofp (F := Ideal) .bf16 (IntOp.andi (BitVec.setWidth 32 b) 15#32) = nib 0 b :=
  sitofp_eq _ _ (by revert b; decide +kernel)
theorem hi_eq (b : BitVec 8) :
    FloatOps.sitofp (F := Ideal) .bf16 (IntOp.andi (IntOp.shrsi ArithUnit.host (BitVec.setWidth 32 b) 4#32) 15#32) = nib 1 b :=
  sitofp_eq _ _ (by revert b; decide +kernel)

/-- The zero points as a matrix of columns by groups. -/
def zcols (z : Vec F S29824x55 .i8) : FVec F S29824x110 .bf16 :=
  sitofp .bf16 (shapeCast S29824x110 (concatenate S29824x55x2 2 [⟨S29824x55x1, (broadcastInDim S29824x55x1 ![0, 1] bcast_S29824x55_S29824x55x1_0_1 (andi (extui 32 z natLt_8_32) (broadcastInDim S29824x55 ![] bcast_S_S29824x55 (constantI S_ 32 15#32))))⟩, ⟨S29824x55x1, (broadcastInDim S29824x55x1 ![0, 1] bcast_S29824x55_S29824x55x1_0_1 (andi (Host.shrsi (extui 32 z natLt_8_32) (broadcastInDim S29824x55 ![] bcast_S_S29824x55 (constantI S_ 32 4#32))) (broadcastInDim S29824x55 ![] bcast_S_S29824x55 (constantI S_ 32 15#32))))⟩] concatenates_S29824x55x1_S29824x55x1_S29824x55x2_d2) shapeCasts_S29824x55x2_S29824x110)

/-- A matrix of columns by groups, regrouped by group, column pair, and place in the pair. -/
def paired (v : FVec F S29824x110 .bf16) : FVec F S110x14912x2 .bf16 :=
  shapeCast _ (transpose S110x29824 [1, 0] v transposes_S29824x110_S110x29824_1_0) shapeCasts_S110x29824_S110x14912x2

def spread0 (v : FVec F S110x14912x2 .bf16) : FVec F S110x64x14912 .bf16 :=
  broadcastInDim S110x64x14912 ![0, 1, 2] bcast_S110x1x14912_S110x64x14912_0_1_2 (broadcastInDim S110x1x14912 ![0, 2] bcast_S110x14912_S110x1x14912_0_2 (shapeCast S110x14912 (extractStridedSlice S110x14912x1 ![0, 0, 0] v slices_S110x14912x2_S110x14912x1_0_0_0) shapeCasts_S110x14912x1_S110x14912))
def spread1 (v : FVec F S110x14912x2 .bf16) : FVec F S110x64x14912 .bf16 :=
  broadcastInDim S110x64x14912 ![0, 1, 2] bcast_S110x1x14912_S110x64x14912_0_1_2 (broadcastInDim S110x1x14912 ![0, 2] bcast_S110x14912_S110x1x14912_0_2 (shapeCast S110x14912 (extractStridedSlice S110x14912x1 ![0, 0, 1] v slices_S110x14912x2_S110x14912x1_0_0_1) shapeCasts_S110x14912x1_S110x14912))

def wlo (w : Vec F S7040x14912 .i8) : FVec F S110x64x14912 .bf16 :=
  sitofp .bf16 (andi (shapeCast _ (extui 32 w natLt_8_32) shapeCasts_S7040x14912_S110x64x14912) (broadcastInDim S110x64x14912 ![] bcast_S_S110x64x14912 (constantI S_ 32 15#32)))
def whi (w : Vec F S7040x14912 .i8) : FVec F S110x64x14912 .bf16 :=
  sitofp .bf16 (andi (Host.shrsi (shapeCast _ (extui 32 w natLt_8_32) shapeCasts_S7040x14912_S110x64x14912) (broadcastInDim S110x64x14912 ![] bcast_S_S110x64x14912 (constantI S_ 32 4#32))) (broadcastInDim S110x64x14912 ![] bcast_S_S110x64x14912 (constantI S_ 32 15#32)))

def prod (x : Vec F S32x1x7040 .bf16) (a b c : FVec F S110x64x14912 .bf16) : FVec F S32x14912 .f32 :=
  Host.dotGeneral dot_S32x7040_S7040x14912_S32x14912_1_0_0_1_n_n none (shapeCast _ x shapeCasts_S32x1x7040_S32x7040)
    (shapeCast _ (mulf (subf a b) c) shapeCasts_S110x64x14912_S7040x14912)

def join (a b : FVec F S32x14912 .f32) : FVec F S32x29824 .bf16 :=
  truncf .bf16 (shapeCast S32x29824 (concatenate S32x14912x2 2 [⟨S32x14912x1, (broadcastInDim S32x14912x1 ![0, 1] bcast_S32x14912_S32x14912x1_0_1 a)⟩, ⟨S32x14912x1, (broadcastInDim S32x14912x1 ![0, 1] bcast_S32x14912_S32x14912x1_0_1 b)⟩] concatenates_S32x14912x1_S32x14912x1_S32x14912x2_d2) shapeCasts_S32x14912x2_S32x29824) bitsLt_bf16_f32

def result (x : Vec F S32x1x7040 .bf16) (w : Vec F S7040x14912 .i8) (s : Vec F S29824x110 .bf16) (z : Vec F S29824x55 .i8) : FVec F S32x29824 .bf16 :=
  join (prod x (wlo w) (spread0 (paired (zcols z))) (spread0 (paired s))) (prod x (whi w) (spread1 (paired (zcols z))) (spread1 (paired s)))

theorem res_eq (m : (ℓ : Loc nD τ sig) → Buf (Elt F) ℓ) (c : Dev nD) : Value.res_main_v55 m c
    = result (m ((c.tc : Thread nD τ).loc main_arg0)) (m ((c.tc : Thread nD τ).loc main_arg1)) (m ((c.tc : Thread nD τ).loc main_arg2)) (m ((c.tc : Thread nD τ).loc main_arg3)) := rfl

theorem zcols_apply (z : Vec Ideal S29824x55 .i8) (n : Fin 29824) (g : Fin 110) :
    zcols (F := Ideal) z (ix2 n g) = nib (g.val % 2) (z (ix2 n ⟨g.val / 2, by omega⟩)) := by
  pointwise [zcols]
  rcases Nat.mod_two_eq_zero_or_one g.val with h | h
  · simp only [h]; exact lo_eq _
  · simp only [h]; exact hi_eq _

theorem spread0_apply (v : FVec Ideal S29824x110 .bf16) (g : Fin 110) (e : Fin 64) (J : Fin 14912) :
    spread0 (F := Ideal) (paired v) (ix3 g e J) = v (ix2 ⟨2 * J.val, by omega⟩ g) := by
  pointwise [spread0, paired]
  simp only [Nat.mul_comm]
theorem spread1_apply (v : FVec Ideal S29824x110 .bf16) (g : Fin 110) (e : Fin 64) (J : Fin 14912) :
    spread1 (F := Ideal) (paired v) (ix3 g e J) = v (ix2 ⟨2 * J.val + 1, by omega⟩ g) := by
  pointwise [spread1, paired]
  simp only [Nat.mul_comm]

theorem wlo_apply (w : Vec Ideal S7040x14912 .i8) (g : Fin 110) (e : Fin 64) (J : Fin 14912) :
    wlo (F := Ideal) w (ix3 g e J) = nib 0 (w (ix2 ⟨64 * g.val + e.val, by omega⟩ J)) := by
  pointwise [wlo]
  rw [lo_eq]; simp only [Nat.mul_comm]
theorem whi_apply (w : Vec Ideal S7040x14912 .i8) (g : Fin 110) (e : Fin 64) (J : Fin 14912) :
    whi (F := Ideal) w (ix3 g e J) = nib 1 (w (ix2 ⟨64 * g.val + e.val, by omega⟩ J)) := by
  pointwise [whi]
  rw [hi_eq]; simp only [Nat.mul_comm]

theorem prod_apply (x : Vec Ideal S32x1x7040 .bf16) (a b c : FVec Ideal S110x64x14912 .bf16) (r : Fin 32) (J : Fin 14912) :
    prod (F := Ideal) x a b c (ix2 r J) = ∑ d : Fin 7040, x (ix3 r 0 d)
      * ((a (ix3 ⟨d.val / 64, by omega⟩ ⟨d.val % 64, by omega⟩ J) - b (ix3 ⟨d.val / 64, by omega⟩ ⟨d.val % 64, by omega⟩ J))
        * c (ix3 ⟨d.val / 64, by omega⟩ ⟨d.val % 64, by omega⟩ J)) := by
  pointwise [prod]

theorem join_apply (a b : FVec Ideal S32x14912 .f32) (r : Fin 32) (J : Fin 14912) (p : Fin 2) :
    join (F := Ideal) a b (ix2 r ⟨2 * J.val + p.val, by omega⟩) = if p.val = 0 then a (ix2 r J) else b (ix2 r J) := by
  pointwise [join]
  fin_cases p <;> simp

theorem result_apply (x : Vec Ideal S32x1x7040 .bf16) (w : Vec Ideal S7040x14912 .i8) (s : Vec Ideal S29824x110 .bf16) (z : Vec Ideal S29824x55 .i8)
    (r : Fin 32) (J : Fin 14912) (p : Fin 2) : result (F := Ideal) x w s z (ix2 r ⟨2 * J.val + p.val, by omega⟩) = val x w s z r J p := by
  unfold result val
  rw [join_apply]
  have hd : ∀ d : Fin 7040, 64 * (d.val / 64) + d.val % 64 = d.val := fun d => by omega
  have h2 : ∀ d : Fin 7040, d.val / 64 / 2 = d.val / 128 := fun d => by omega
  have hp : p = 0 ∨ p = 1 := by fin_cases p <;> simp
  rcases hp with rfl | rfl
  · rw [if_pos (show ((0 : Fin 2).val = 0) from rfl), prod_apply]
    refine Finset.sum_congr rfl fun d _ => ?_
    rw [wlo_apply, spread0_apply, spread0_apply, zcols_apply]
    simp only [hd, h2]; rfl
  · rw [if_neg (show ¬ ((1 : Fin 2).val = 0) by decide), prod_apply]
    refine Finset.sum_congr rfl fun d _ => ?_
    rw [whi_apply, spread1_apply, spread1_apply, zcols_apply]
    simp only [hd, h2]; rfl
end Cert.ReferenceIdeal.Point
end
-- ==== Proof.Sum.lean ====
module

public import proofs.«01_k».proof.Proof.Reads
public import proofs.«01_k».proof.Proof.Stores
public import proofs.«01_k».proof.Proof.Host
public import proofs.«01_k».proof.Proof.Ref

/-! A block of the result and the matrix product: the even positions of the accumulator's sum carry the upper rows, the odd
ones the lower rows, and the others are multiplied by zero. -/

@[expose] public section
noncomputable section
namespace Cert.KernelIdeal.Chain
open Cert.KernelIdeal Cert.KernelIdeal.Gen Cert.KernelIdeal.Body
open Idealize.ShloMosaic
open Idealize.ShloMosaic.TcCoe

/-- The accumulator after the last step. -/
def accV (x1 : Vec Ideal S64x14080 .bf16) (x2 : Vec Ideal S7040x512 .i8) (x3 : Vec Ideal S1024x110 .bf16) (x4 : Vec Ideal S1024x55 .i8) :
    FVec Ideal S64x512 .f32 := fun i => ∑ K ∈ Finset.range 14080, term x1 x2 x3 x4 (i 0) (i 1) K

/-- The result's block, of the operands' blocks. -/
def outV (x1 : Vec Ideal S64x14080 .bf16) (x2 : Vec Ideal S7040x512 .i8) (x3 : Vec Ideal S1024x110 .bf16) (x4 : Vec Ideal S1024x55 .i8) :
    Vec Ideal S32x1024 .bf16 := outG (accV x1 x2 x3 x4)

theorem sum_pairs (f : ℕ → EReal) (n : ℕ) : ∑ K ∈ Finset.range (2 * n), f K = ∑ d ∈ Finset.range n, (f (2 * d) + f (2 * d + 1)) := by
  induction n with
  | zero => simp
  | succ n ih => rw [Nat.mul_succ, Finset.sum_range_succ, Finset.sum_range_succ, ih, Finset.sum_range_succ, add_assoc]

section
variable (x : Vec Ideal S32x1x7040 .bf16) (w : Vec Ideal S7040x14912 .i8) (s : Vec Ideal S29824x110 .bf16) (z : Vec Ideal S29824x55 .i8)
    (x2 : Vec Ideal S7040x512 .i8) (x3 : Vec Ideal S1024x110 .bf16) (x4 : Vec Ideal S1024x55 .i8) (j : Fin 512) (J : Fin 14912) (p : Fin 2)
    (hw : ∀ d : Fin 7040, x2 (ix2 d j) = w (ix2 d J))
    (hs : ∀ g : Fin 110, x3 (ix2 ⟨2 * j.val + p.val, by omega⟩ g) = s (ix2 ⟨2 * J.val + p.val, by omega⟩ g))
    (hz : ∀ g : Fin 55, x4 (ix2 ⟨2 * j.val + p.val, by omega⟩ g) = z (ix2 ⟨2 * J.val + p.val, by omega⟩ g))

include hw hs hz in
theorem deq_eq (d : Fin 7040) : deq x2 x3 x4 ⟨2 * d.val + p.val, by omega⟩ j = Cert.ReferenceIdeal.Point.wgt w s z J p d := by
  have e1 : (2 * d.val + p.val) % 2 = p.val := by omega
  have e2 : (2 * d.val + p.val) / 2 = d.val := by omega
  have e3 : (2 * d.val + p.val) / 128 = d.val / 64 := by omega
  have e4 : (2 * d.val + p.val) / 256 = d.val / 128 := by omega
  unfold deq Cert.ReferenceIdeal.Point.wgt
  simp only [e1, e2, e3, e4]
  rw [hz, hs, ← hw]

include hw hs hz in
theorem acc_eq_val (r : Fin 32) (x1 : Vec Ideal S64x14080 .bf16) (q : Fin 64)
    (hx : ∀ d : Fin 7040, x1 (ix2 q ⟨2 * d.val + p.val, by omega⟩) = x (ix3 r 0 d))
    (h0 : ∀ d : Fin 7040, x1 (ix2 q ⟨2 * d.val + (1 - p.val), by omega⟩) = 0) :
    accV x1 x2 x3 x4 (ix2 q j) = Cert.ReferenceIdeal.Point.val x w s z r J p := by
  have e : accV x1 x2 x3 x4 (ix2 q j) = ∑ K ∈ Finset.range (2 * 7040), term x1 x2 x3 x4 q j K := rfl
  rw [e, sum_pairs, Finset.sum_range]
  unfold Cert.ReferenceIdeal.Point.val
  refine Finset.sum_congr rfl fun d _ => ?_
  have hp : term x1 x2 x3 x4 q j (2 * d.val + p.val) = x (ix3 r 0 d) * Cert.ReferenceIdeal.Point.wgt w s z J p d := by
    rw [term, dif_pos (by omega), hx, deq_eq w s z x2 x3 x4 j J p hw hs hz]
  have hn : term x1 x2 x3 x4 q j (2 * d.val + (1 - p.val)) = 0 := by
    rw [term, dif_pos (by omega), h0, zero_mul]
  have hp2 : p = 0 ∨ p = 1 := by fin_cases p <;> simp
  rcases hp2 with rfl | rfl
  · have hp' : term x1 x2 x3 x4 q j (2 * d.val) = _ := hp
    have hn' : term x1 x2 x3 x4 q j (2 * d.val + 1) = 0 := hn
    rw [hp', hn', add_zero]
  · have hp' : term x1 x2 x3 x4 q j (2 * d.val + 1) = _ := hp
    have hn' : term x1 x2 x3 x4 q j (2 * d.val) = 0 := hn
    rw [hp', hn', zero_add]

include hw hs hz in
theorem outV_eq_val (r : Fin 32) :
    outV (Host.xmat x) x2 x3 x4 (ix2 r ⟨2 * j.val + p.val, by omega⟩) = Cert.ReferenceIdeal.Point.val x w s z r J p := by
  have hp2 : p = 0 ∨ p = 1 := by fin_cases p <;> simp
  rcases hp2 with rfl | rfl
  · have e : outV (Host.xmat x) x2 x3 x4 (ix2 r ⟨2 * j.val + (0 : Fin 2).val, by omega⟩) = accV (Host.xmat x) x2 x3 x4 (ix2 ⟨r.val, by omega⟩ j) := by
      have h1 : (2 * j.val + (0 : Fin 2).val) % 2 = 0 := by simp
      have h2 : (2 * j.val + (0 : Fin 2).val) / 2 = j.val := by simp
      show (if (2 * j.val + (0 : Fin 2).val) % 2 = 0 then _ else _) = _
      rw [if_pos h1]
      refine congrArg (accV _ x2 x3 x4) ?_
      refine congrArg (ix2 _) (Fin.ext h2)
    rw [e]
    refine acc_eq_val x w s z x2 x3 x4 j J 0 hw hs hz r _ _ (fun d => ?_) (fun d => ?_)
    · rw [Host.xmat_upper, if_pos (by show (2 * d.val + 0) % 2 = 0; omega)]
      congr 2; apply Fin.ext; show (2 * d.val + 0) / 2 = d.val; omega
    · rw [Host.xmat_upper, if_neg (by show ¬ (2 * d.val + 1) % 2 = 0; omega)]
  · have e : outV (Host.xmat x) x2 x3 x4 (ix2 r ⟨2 * j.val + (1 : Fin 2).val, by omega⟩) = accV (Host.xmat x) x2 x3 x4 (ix2 ⟨32 + r.val, by omega⟩ j) := by
      have h1 : ¬ (2 * j.val + (1 : Fin 2).val) % 2 = 0 := by show ¬ (2 * j.val + 1) % 2 = 0; omega
      have h2 : (2 * j.val + (1 : Fin 2).val) / 2 = j.val := by show (2 * j.val + 1) / 2 = j.val; omega
      show (if (2 * j.val + (1 : Fin 2).val) % 2 = 0 then _ else _) = _
      rw [if_neg h1]
      refine congrArg (accV _ x2 x3 x4) ?_
      refine congrArg (ix2 _) (Fin.ext h2)
    rw [e]
    refine acc_eq_val x w s z x2 x3 x4 j J 1 hw hs hz r _ _ (fun d => ?_) (fun d => ?_)
    · rw [Host.xmat_lower, if_neg (by show ¬ (2 * d.val + 1) % 2 = 0; omega)]
      congr 2; apply Fin.ext; show (2 * d.val + 1) / 2 = d.val; omega
    · rw [Host.xmat_lower, if_pos (by show (2 * d.val + 0) % 2 = 0; omega)]
end

/-- `outV_eq_val` at indices with given coordinates. -/
theorem outV_at (x : Vec Ideal S32x1x7040 .bf16) (w : Vec Ideal S7040x14912 .i8) (s : Vec Ideal S29824x110 .bf16) (z : Vec Ideal S29824x55 .i8)
    (x2 : Vec Ideal S7040x512 .i8) (x3 : Vec Ideal S1024x110 .bf16) (x4 : Vec Ideal S1024x55 .i8) (j : Fin 512) (J : Fin 14912) (p : Fin 2)
    (y : Fin 1024) (n : Fin 29824) (hy : y.val = 2 * j.val + p.val) (hn : n.val = 2 * J.val + p.val)
    (hw : ∀ d : Fin 7040, x2 (ix2 d j) = w (ix2 d J)) (hs : ∀ g : Fin 110, x3 (ix2 y g) = s (ix2 n g))
    (hz : ∀ g : Fin 55, x4 (ix2 y g) = z (ix2 n g)) (r : Fin 32) :
    outV (Host.xmat x) x2 x3 x4 (ix2 r y) = Cert.ReferenceIdeal.Point.result (F := Ideal) x w s z (ix2 r n) := by
  obtain ⟨y, hy'⟩ := y
  obtain ⟨n, hn'⟩ := n
  subst hy
  subst hn
  exact (outV_eq_val x w s z x2 x3 x4 j J p hw hs hz r).trans (Cert.ReferenceIdeal.Point.result_apply x w s z r J p).symm

section
variable (c : Dev nD)
    (M1 : Memref sig .tc .vmem S64x14080 .bf16) (M2 : Memref sig .tc .vmem S7040x512 .i8)
    (M3 : Memref sig .tc .vmem S1024x110 .bf16) (M4 : Memref sig .tc .vmem S1024x55 .i8)
    (M6 : Memref sig .tc .vmem S110x2x512 .bf16) (M7 : Memref sig .tc .vmem S2x55x2x512 .bf16)
    (f1 : Bf (F := Ideal) c M1) (f2 : Bf (F := Ideal) c M2) (f3 : Bf (F := Ideal) c M3) (f4 : Bf (F := Ideal) c M4)
    (x1 : Vec Ideal S64x14080 .bf16) (x2 : Vec Ideal S7040x512 .i8) (x3 : Vec Ideal S1024x110 .bf16) (x4 : Vec Ideal S1024x55 .i8)
    (h1 : M1.view.read (Elt Ideal) f1 = x1) (h2 : M2.view.read (Elt Ideal) f2 = x2)
    (h3 : M3.view.read (Elt Ideal) f3 = x3) (h4 : M4.view.read (Elt Ideal) f4 = x4)

include h1 h2 h3 h4 in
/-- What the body leaves in the result's block. -/
theorem out_read {κ sp} (v : View sig κ sp S32x1024 .bf16) (f : v.ty.Contents (Elt Ideal)) :
    v.read (Elt Ideal) (v.writes (Elt Ideal) f (kernelRun.sl.H5_4 (F := Ideal) c M1 M2 M3 M4 M6 M7 f1 f2 f3 f4)) = outV x1 x2 x3 x4 := by
  rw [H5_4_eq, outs_read]
  unfold outV
  refine congrArg outG (funext fun i => ?_)
  have hi : i = ix2 (n0 := 64) (n1 := 512) (i 0) (i 1) := eq_ix2 (n0 := 64) (n1 := 512) i
  refine (congrArg _ hi).trans ?_
  exact accN_apply c M1 M2 M3 M4 M6 M7 f1 f2 f3 f4 x1 x2 x3 x4 h1 h2 h3 h4 55 le_rfl (i 0) (i 1)
end
end Cert.KernelIdeal.Chain
end
-- ==== Proof.Fill.lean ====
module

public import proofs.«01_k».proof.Proof.Sum
public import proofs.«01_k».proof.Proof.IFrame
public import Idealize.ShloMosaic.Lib.Pipeline.ValueKit

/-! The operands' blocks at a grid point, at the places that lie in their arrays. -/

@[expose] public section
noncomputable section
namespace Cert.KernelIdeal.Run
open Cert.KernelIdeal Cert.KernelIdeal.Gen Cert.KernelIdeal.Body Cert.KernelIdeal.Chain
open Idealize.ShloMosaic
open Idealize.ShloMosaic.TcCoe

variable {F : FTy → Type} [FloatOps F]
variable (m : (ℓ : Loc nD τ sig) → Buf (Elt F) ℓ)

theorem xs1 : ∀ t : Fin cfg0.N, win0_1.xsize (grid0.coords t) 0 = 7040 ∧ win0_1.xsize (grid0.coords t) 1 = min 512 (14912 - 512 * t.val) := by decide +kernel
theorem xs2 : ∀ t : Fin cfg0.N, win0_2.xsize (grid0.coords t) 0 = min 1024 (29824 - 1024 * t.val) ∧ win0_2.xsize (grid0.coords t) 1 = 110 := by decide +kernel
theorem xs3 : ∀ t : Fin cfg0.N, win0_3.xsize (grid0.coords t) 0 = min 1024 (29824 - 1024 * t.val) ∧ win0_3.xsize (grid0.coords t) 1 = 55 := by decide +kernel
theorem xs4 : ∀ t : Fin cfg0.N, win0_4.xsize (grid0.coords t) 0 = 32 ∧ win0_4.xsize (grid0.coords t) 1 = min 1024 (29824 - 1024 * t.val) := by decide +kernel
theorem ix_0 : ∀ t : Fin cfg0.N, win0_0.index t = ![0, 0] := by decide +kernel
theorem ix_1 : ∀ t : Fin cfg0.N, win0_1.index t = ![0, t.val] := by decide +kernel
theorem ix_2 : ∀ t : Fin cfg0.N, win0_2.index t = ![t.val, 0] := by decide +kernel
theorem ix_3 : ∀ t : Fin cfg0.N, win0_3.index t = ![t.val, 0] := by decide +kernel
theorem ix_4 : ∀ t : Fin cfg0.N, win0_4.index t = ![0, t.val] := by decide +kernel

theorem blk0 (c : Dev nD) (t : Fin cfg0.N) : (iblk m c 0 t : Vec F S64x14080 .bf16) = Host.xmat (m ((c : Thread nD τ).loc main_arg0)) := by
  funext y
  rw [← Host.V_x]
  blk_ext [iblk, ix_0 t]

theorem fill1 (c : Dev nD) (t : Fin cfg0.N) (d) (a : Fin 7040) (j : Fin 512) (J : Fin 14912) (h : J.val = 512 * t.val + j.val) :
    win0_1.fill (grid0.coords t) d (iblk m c 1 t) (ix2 a j) = m ((c : Thread nD τ).loc main_arg1) (ix2 a J) := by
  have hm : win0_1.moved (grid0.coords t) (ix2 a j) = true := by
    rw [win0_1.moved_iff]
    intro b
    fin_cases b
    · show a.val < win0_1.xsize (grid0.coords t) 0; rw [(xs1 t).1]; omega
    · show j.val < win0_1.xsize (grid0.coords t) 1; rw [(xs1 t).2]; omega
  unfold Pipeline.Window.fill
  rw [dif_pos hm]
  rw [← V_main_arg1 m c]
  blk_ext [iblk, ix_1 t]

theorem fill2 (c : Dev nD) (t : Fin cfg0.N) (d) (a : Fin 1024) (g : Fin 110) (n : Fin 29824) (h : n.val = 1024 * t.val + a.val) :
    win0_2.fill (grid0.coords t) d (iblk m c 2 t) (ix2 a g) = m ((c : Thread nD τ).loc main_arg2) (ix2 n g) := by
  have hm : win0_2.moved (grid0.coords t) (ix2 a g) = true := by
    rw [win0_2.moved_iff]
    intro b
    fin_cases b
    · show a.val < win0_2.xsize (grid0.coords t) 0; rw [(xs2 t).1]; omega
    · show g.val < win0_2.xsize (grid0.coords t) 1; rw [(xs2 t).2]; omega
  unfold Pipeline.Window.fill
  rw [dif_pos hm]
  rw [← V_main_arg2 m c]
  blk_ext [iblk, ix_2 t]

theorem fill3 (c : Dev nD) (t : Fin cfg0.N) (d) (a : Fin 1024) (g : Fin 55) (n : Fin 29824) (h : n.val = 1024 * t.val + a.val) :
    win0_3.fill (grid0.coords t) d (iblk m c 3 t) (ix2 a g) = m ((c : Thread nD τ).loc main_arg3) (ix2 n g) := by
  have hm : win0_3.moved (grid0.coords t) (ix2 a g) = true := by
    rw [win0_3.moved_iff]
    intro b
    fin_cases b
    · show a.val < win0_3.xsize (grid0.coords t) 0; rw [(xs3 t).1]; omega
    · show g.val < win0_3.xsize (grid0.coords t) 1; rw [(xs3 t).2]; omega
  unfold Pipeline.Window.fill
  rw [dif_pos hm]
  rw [← V_main_arg3 m c]
  blk_ext [iblk, ix_3 t]
end Cert.KernelIdeal.Run
end
-- ==== Proof.Value.lean ====
module

public import proofs.«01_k».proof.Proof.Fill
public import Idealize.ShloMosaic.Lib.Claim

/-! The run of the idealized kernel with its result: the array ends at the reference's product of the arguments. -/

@[expose] public section

noncomputable section

namespace Cert.KernelIdeal.Value

open Cert.KernelIdeal Cert.KernelIdeal.Gen Cert.KernelIdeal.Body Cert.KernelIdeal.Chain
open Cert.KernelIdeal.Run (zb fill1 fill2 fill3 blk0 xs4 ix_4 defs₀_row)

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-- The result as an array: the reference's result of the same arguments. -/
def goal (c : Dev nD) : Vec Ideal S32x29824 .bf16 :=
  Cert.ReferenceIdeal.Point.result (F := Ideal) (m ((c : Thread nD τ).loc main_arg0)) (m ((c : Thread nD τ).loc main_arg1))
    (m ((c : Thread nD τ).loc main_arg2)) (m ((c : Thread nD τ).loc main_arg3))

/-- The result's block at a point, the operands' blocks completed past their arrays' ends by `d1`, `d2` and `d3`. -/
def left (c : Dev nD) (t : Fin cfg0.N) (d1 : Vec Ideal S7040x512 .i8) (d2 : Vec Ideal S1024x110 .bf16) (d3 : Vec Ideal S1024x55 .i8) :
    Vec Ideal S32x1024 .bf16 :=
  outV (iblk m c 0 t) (win0_1.fill (grid0.coords t) d1 (iblk m c 1 t)) (win0_2.fill (grid0.coords t) d2 (iblk m c 2 t))
    (win0_3.fill (grid0.coords t) d3 (iblk m c 3 t))

/-- Inside the array the block is the reference's, whatever completes the operands' blocks. -/
theorem left_apply (c : Dev nD) (t : Fin cfg0.N) (d1 d2 d3) (r : Fin 32) (y : Fin 1024) (n : Fin 29824) (h : n.val = 1024 * t.val + y.val) :
    left m c t d1 d2 d3 (ix2 r y) = goal m c (ix2 r n) := by
  have hj : y.val / 2 < 512 := by omega
  have hJ : n.val / 2 < 14912 := by omega
  have hp : y.val % 2 < 2 := by omega
  unfold goal left
  refine (congrArg (fun q => outV q _ _ _ _) (blk0 m c t)).trans ?_
  refine outV_at _ _ _ _ _ _ _ ⟨y.val / 2, hj⟩ ⟨n.val / 2, hJ⟩ ⟨y.val % 2, hp⟩ y n (by show y.val = 2 * (y.val / 2) + y.val % 2; omega)
    (by show n.val = 2 * (n.val / 2) + y.val % 2; omega) (fun a => ?_) (fun g => ?_) (fun g => ?_) r
  · exact fill1 m c t d1 a _ _ (by show n.val / 2 = 512 * t.val + y.val / 2; omega)
  · exact fill2 m c t d2 _ g _ h
  · exact fill3 m c t d3 _ g _ h

/-- The proof data: each input's buffer holds its block where that lies in the array, the result's what the body leaves. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#8 : BitVec 8)) (iblk m c 1 t)
    | ⟨2, _⟩ => win0_2.fill (grid0.coords t) (fun _ => zb (F := Ideal)) (iblk m c 2 t)
    | ⟨3, _⟩ => win0_3.fill (grid0.coords t) (fun _ => (0#8 : BitVec 8)) (iblk m c 3 t)
    | ⟨4, _⟩ => left m c t (fun _ => (0#8 : BitVec 8)) (fun _ => zb (F := Ideal)) (fun _ => (0#8 : BitVec 8))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t
    = win0_1.fill (grid0.coords t) (fun _ => (0#8 : BitVec 8)) (iblk m c 1 t) := by dsimp only [dats]
theorem after0_2 (c : Dev nD) (t : Fin cfg0.N) : (dats m 0 c).after 2 t
    = win0_2.fill (grid0.coords t) (fun _ => zb (F := Ideal)) (iblk m c 2 t) := by dsimp only [dats]
theorem after0_3 (c : Dev nD) (t : Fin cfg0.N) : (dats m 0 c).after 3 t
    = win0_3.fill (grid0.coords t) (fun _ => (0#8 : BitVec 8)) (iblk m c 3 t) := by dsimp only [dats]
theorem after0_4 (c : Dev nD) (t : Fin cfg0.N) : (dats m 0 c).after 4 t
    = left m c t (fun _ => (0#8 : BitVec 8)) (fun _ => zb (F := Ideal)) (fun _ => (0#8 : BitVec 8)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before0_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
theorem before0_3 (c : Dev nD) (t : Fin cfg0.N) (d) :
    (dats m 0 c).before 3 t d = win0_3.fill (grid0.coords t) d (iblk m c 3 t) := by
  unfold Dat.before; rw [if_pos (fetch0_3 t)]; unfold Dat.fetched Dat.blockOf iblk; rw [A_eq]

/-- The body on whole memrefs, each named by what it reads: the result's block ends at `outV` of the operands'. -/
theorem sound_kernel (c : Dev nD) (i : grid0.Coords)
    (M1 : Memref sig .tc .vmem S64x14080 .bf16) (h1 : M1.IsWhole) (M2 : Memref sig .tc .vmem S7040x512 .i8) (h2 : M2.IsWhole)
    (M3 : Memref sig .tc .vmem S1024x110 .bf16) (h3 : M3.IsWhole) (M4 : Memref sig .tc .vmem S1024x55 .i8) (h4 : M4.IsWhole)
    (M5 : Memref sig .tc .vmem S32x1024 .bf16) (h5 : M5.IsWhole)
    (x1 : Vec Ideal S64x14080 .bf16) (x2 : Vec Ideal S7040x512 .i8) (x3 : Vec Ideal S1024x110 .bf16) (x4 : Vec Ideal S1024x55 .i8)
    (K : PUnit → sProp 𝕄) :
    iprop(Pipeline.ΦA spec0 c ∗ owns (c : Thread nD τ) M1 fullShare x1 ∗ owns (c : Thread nD τ) M2 fullShare x2
        ∗ owns (c : Thread nD τ) M3 fullShare x3 ∗ owns (c : Thread nD τ) M4 fullShare x4
        ∗ (∃ d, owns (c : Thread nD τ) M5 fullShare d)
        ∗ (iprop(Pipeline.ΦA spec0 c ∗ owns (c : Thread nD τ) M1 fullShare x1 ∗ owns (c : Thread nD τ) M2 fullShare x2
          ∗ owns (c : Thread nD τ) M3 fullShare x3 ∗ owns (c : Thread nD τ) M4 fullShare x4
          ∗ owns (c : Thread nD τ) M5 fullShare (outV x1 x2 x3 x4)) -∗ K ⟨⟩))
      ⊢ wp frame (wpE (defs₀ (F := Ideal)) Variants.none c none) Set.univ
          (cc0_awq_linear i M1 h1 M2 h2 M3 h3 M4 h4 M5 h5 (Memref.whole cc0_scratch0) (Memref.isWhole_whole _)
            (Memref.whole cc0_scratch1) (Memref.isWhole_whole _)) K := by
  unfold Pipeline.ΦA
  rw [scopedRest0_eq]
  unfold owns
  iintro ⟨⟨⟨⟨%f6, H6⟩, ⟨%f7, H7⟩⟩, Hp⟩, ⟨%f1, %hf1, H1⟩, ⟨%f2, %hf2, H2⟩, ⟨%f3, %hf3, H3⟩, ⟨%f4, %hf4, H4⟩, ⟨%d5, %f5, -, H5⟩, Hk⟩
  rw [h1.set_eq_univ, h2.set_eq_univ, h3.set_eq_univ, h4.set_eq_univ, h5.set_eq_univ]
  iapply ((kernelRun (F := Ideal) c i M1 h1 M2 h2 M3 h3 M4 h4 M5 h5 (Memref.whole cc0_scratch0) (Memref.isWhole_whole _)
            (Memref.whole cc0_scratch1) (Memref.isWhole_whole _) f1 f2 f3 f4).2 f5 f6 f7 Set.univ K)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  iapply Hk
  isplitl [H6 H7 Hp]
  · isplitl [H6 H7]
    · isplitl [H6]; · iexact H6
      iexact H7
    · iexact Hp
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  iexists _; isplitr
  swap; · iexact H5
  ipureintro
  exact out_read c M1 M2 M3 M4 _ _ f1 f2 f3 f4 x1 x2 x3 x4 hf1 hf2 hf3 hf4 M5.view _

/-- Two completions of the operands' blocks leave the same of the result's block inside the array. -/
theorem left_cut (c : Dev nD) (t : Fin cfg0.N) (d1 d2 d3 e1 e2 e3) :
    win0_4.cut (grid0.coords t) (left m c t d1 d2 d3) = win0_4.cut (grid0.coords t) (left m c t e1 e2 e3) := by
  funext j
  have h0 : (j 0).val < 32 := by have := (j 0).isLt; have h := (xs4 t).1; change (j 0).val < win0_4.xsize (grid0.coords t) 0 at this; omega
  have hl : (j 1).val < min 1024 (29824 - 1024 * t.val) := by
    have := (j 1).isLt; have h := (xs4 t).2; change (j 1).val < win0_4.xsize (grid0.coords t) 1 at this; omega
  have e : win0_4.xinj (grid0.coords t) j = ix2 (n0 := 32) (n1 := 1024) ⟨(j 0).val, h0⟩ ⟨(j 1).val, by omega⟩ := by
    funext a; apply Fin.ext; fin_cases a <;> rfl
  show left m c t d1 d2 d3 (win0_4.xinj (grid0.coords t) j) = left m c t e1 e2 e3 (win0_4.xinj (grid0.coords t) j)
  rw [e, left_apply m c t d1 d2 d3 _ _ ⟨1024 * t.val + (j 1).val, by omega⟩ rfl, left_apply m c t e1 e2 e3 _ _ ⟨1024 * t.val + (j 1).val, by omega⟩ rfl]

/-- The body at a grid point. -/
theorem body_obligation (c : Dev nD) :
    BodyObligationLoose (dats m 0 c) (defs₀ (F := Ideal)) Variants.none () Set.univ := fun t => by
  rw [bigSep_W0, bigSep_W0, defs₀_row]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  unfold bodyAt0
  iapply (sound_kernel c (grid0.coords t) _ _ _ _ _ _ _ _ _ _ (iblk m c 0 t)
    (win0_1.fill (grid0.coords t) d1 (iblk m c 1 t)) (win0_2.fill (grid0.coords t) d2 (iblk m c 2 t))
    (win0_3.fill (grid0.coords t) d3 (iblk m c 3 t)) _)
  isplitl [HΦ]; · iexact HΦ
  isplitl [H0]; · iexact H0
  isplitl [H1]; · iexact H1
  isplitl [H2]; · iexact H2
  isplitl [H3]; · iexact H3
  isplitl [H4]; · iexists _; iexact H4
  iintro ⟨HΦ, H0, H1, H2, H3, H4⟩
  isplitl [HΦ]; · iexact HΦ
  isplitl [Ho]; · iexact Ho
  isplitl [H0]
  · change _ ⊢ owns (c : Thread nD τ) (st0_0 t) fullShare ((dats m 0 c).after 0 t)
    rw [after0_0]; try iexact H0
  isplitl [H1]
  · iexists d1
    change _ ⊢ owns (c : Thread nD τ) (st0_1 t) fullShare (win0_1.fill (grid0.coords t) d1 (win0_1.cut (grid0.coords t) ((dats m 0 c).after 1 t)))
    rw [after0_1, win0_1.cut_fill]; try iexact H1
  isplitl [H2]
  · iexists d2
    change _ ⊢ owns (c : Thread nD τ) (st0_2 t) fullShare (win0_2.fill (grid0.coords t) d2 (win0_2.cut (grid0.coords t) ((dats m 0 c).after 2 t)))
    rw [after0_2, win0_2.cut_fill]; try iexact H2
  isplitl [H3]
  · iexists d3
    change _ ⊢ owns (c : Thread nD τ) (st0_3 t) fullShare (win0_3.fill (grid0.coords t) d3 (win0_3.cut (grid0.coords t) ((dats m 0 c).after 3 t)))
    rw [after0_3, win0_3.cut_fill]; try iexact H3
  iexists (left m c t d1 d2 d3)
  change _ ⊢ owns (c : Thread nD τ) (st0_4 t) fullShare (win0_4.fill (grid0.coords t) (left m c t d1 d2 d3) (win0_4.cut (grid0.coords t) ((dats m 0 c).after 4 t)))
  rw [after0_4, win0_4.fill_congr_cut _ (left_cut m c t d1 d2 d3 _ _ _)]
  unfold left
  rfl

/-- The result's array after the run. -/
theorem arr_out (c : Dev nD) : (dats m 0 c).arrAt 4 cfg0.N = goal m c := by
  refine (dats m 0 c).arrAt_eq_of_covers 4 _ (by decide +kernel) fun t hf j => ?_
  rw [after0_4]
  have h0 : (j 0).val < 32 := by have := (j 0).isLt; have h := (xs4 t).1; change (j 0).val < win0_4.xsize (grid0.coords t) 0 at this; omega
  have hl : (j 1).val < min 1024 (29824 - 1024 * t.val) := by
    have := (j 1).isLt; have h := (xs4 t).2; change (j 1).val < win0_4.xsize (grid0.coords t) 1 at this; omega
  have e : win0_4.xinj (grid0.coords t) j = ix2 (n0 := 32) (n1 := 1024) ⟨(j 0).val, h0⟩ ⟨(j 1).val, by omega⟩ := by
    funext a; apply Fin.ext; fin_cases a <;> rfl
  change left m c t _ _ _ (win0_4.xinj (grid0.coords t) j) = goal m c ((win0_4.blk t).view.emb j)
  rw [e, left_apply m c t _ _ _ _ _ ⟨1024 * t.val + (j 1).val, by omega⟩ rfl]
  blk_ext [ix_4 t]

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The result ends at the reference's, the arguments as they were. -/
theorem run : θ_run defs (onTc (τ := τ) (main (F := Ideal))) ⟨m, fun _ => 0, ρ⟩ (fun r => ∀ c : Dev nD,
      r.2.mem ((c.tc : Thread nD τ).loc main_v11) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).1 4).trans (arr_out m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.KernelIdeal.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KFrame
public import proofs.«01_k».proof.Proof.IFrame
public import proofs.«01_k».proof.Proof.Value
public import Idealize.ShloMosaic.Lib.Bf16Pair
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.SL.Sem

/-- Each rewriting of the printed kernel into its idealization is an instance of its rule. -/
theorem preserves : Cert.preserves_Kernel_KernelIdeal :=
  ⟨IdealRules.bf16_pair.bufferStatement _ _, IdealRules.bf16_pair.bufferStatement _ _, IdealRules.bf16_pair.statement _ _,
    IdealRules.bf16_pair.packStatement _, IdealRules.bf16_pair.statement _ _, IdealRules.bf16_pair.statement _ _,
    IdealRules.bf16_pair.packStatement _, IdealRules.bf16_pair.statement _ _, IdealRules.bf16_pair.statement _ _,
    IdealRules.bf16_pair.statement _ _, IdealRules.bf16_pair.statement _ _, IdealRules.bf16_pair.statement _ _,
    IdealRules.bf16_pair.packStatement _⟩

theorem frame_ri : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- From memories that agree on the arguments the kernel and the reference end with the same result. -/
theorem algebraic : Cert.algebraic_KernelIdeal_ReferenceIdeal := fun m g m' g' _ hargs =>
  ⟨fun c => Cert.KernelIdeal.Value.goal m c, Cert.KernelIdeal.Value.run m g,
    (θ_run Cert.ReferenceIdeal.defs _ _).mono (fun r h c => by
      refine ⟨(h c).1.trans ?_, (h c).2⟩
      rw [Cert.ReferenceIdeal.Point.res_eq, (hargs c).1, (hargs c).2.1, (hargs c).2.2.1, (hargs c).2.2.2]
      rfl) (Cert.ReferenceIdeal.Value.run (F := Ideal) m' g')⟩

theorem claim : Cert.Claim := ⟨Cert.Kernel.Gen.facts, Cert.KernelIdeal.Gen.facts, Cert.ReferenceIdeal.Gen.facts,
  fun m g _ => Cert.Kernel.Run.frame m g, fun m g _ => Cert.KernelIdeal.Run.frame m g, frame_ri, preserves, algebraic⟩

end Cert.Proof

end
